-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x3AAAAAAB#32 ((768⁻¹ : ℝ) : EReal)
  ∧ IdealRules.named_const.Statement Cert.KernelIdeal.κ "mask" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x768 : Shape := ⟨3, ![2, 4096, 768]⟩
abbrev S768x768 : Shape := ⟨2, ![768, 768]⟩
abbrev S768 : Shape := ⟨1, ![768]⟩
abbrev S_ : Shape := ⟨0, ![]⟩
abbrev S1 : Shape := ⟨1, ![1]⟩
abbrev S6 : Shape := ⟨1, ![6]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S768x768 .f32) (main_arg5 : FVec F S768 .f32) (main_v3 : IVec S_ 1) (main_v7 : IVec S_ 1) (main_v11 : IVec S_ 1) (main_v15 : IVec S_ 1) : IVec S6 1 :=
  let main_v16 : FVec F S768x768 .f32 := Host.absf main_arg4
  let main_cst_6 : FVec F S_ .f32 := constant S_ .f32 0x7F800000#32
  let main_v17 : FVec F S768x768 .f32 := broadcastInDim S768x768 ![] bcast_S_S768x768 main_cst_6
  let main_v18 : IVec S768x768 1 := cmpf .olt main_v16 main_v17
  let main_c_7 : IVec S_ 1 := constantI S_ 1 1#1
  let main_v19 : IVec S_ 1 := (fun x v => Host.reduce IntOp.andi x v reducesTo_S768x768_S_d0_1 h_S_) main_v18 main_c_7
  let main_v20 : FVec F S768 .f32 := Host.absf main_arg5
  let main_cst_8 : FVec F S_ .f32 := constant S_ .f32 0x7F800000#32
  let main_v21 : FVec F S768 .f32 := broadcastInDim S768 ![] bcast_S_S768 main_cst_8
  let main_v22 : IVec S768 1 := cmpf .olt main_v20 main_v21
  let main_c_9 : IVec S_ 1 := constantI S_ 1 1#1
  let main_v23 : IVec S_ 1 := (fun x v => Host.reduce IntOp.andi x v reducesTo_S768_S_d0 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S2x4096x768 .f32) (main_arg1 : FVec F S2x4096x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) : IVec S6 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S2x4096x768 .f32 := Host.absf main_arg1
  let main_cst_0 : FVec F S_ .f32 := constant S_ .f32 0x7F800000#32
  let main_v5 : FVec F S2x4096x768 .f32 := broadcastInDim S2x4096x768 ![] bcast_S_S2x4096x768 main_cst_0
  let main_v6 : IVec S2x4096x768 1 := cmpf .olt main_v4 main_v5
  let main_c_1 : IVec S_ 1 := constantI S_ 1 1#1
  let main_v7 : IVec S_ 1 := (fun x v => Host.reduce IntOp.andi x v reducesTo_S2x4096x768_S_d0_1_2 h_S_) main_v6 main_c_1
  let main_v8 : FVec F S768x768 .f32 := Host.absf main_arg2
  let main_cst_2 : FVec F S_ .f32 := constant S_ .f32 0x7F800000#32
  let main_v9 : FVec F S768x768 .f32 := broadcastInDim S768x768 ![] bcast_S_S768x768 main_cst_2
  let main_v10 : IVec S768x768 1 := cmpf .olt main_v8 main_v9
  let main_c_3 : IVec S_ 1 := constantI S_ 1 1#1
  let main_v11 : IVec S_ 1 := (fun x v => Host.reduce IntOp.andi x v reducesTo_S768x768_S_d0_1 h_S_) main_v10 main_c_3
  let main_v12 : FVec F S768 .f32 := Host.absf main_arg3
  let main_cst_4 : FVec F S_ .f32 := constant S_ .f32 0x7F800000#32
  let main_v13 : FVec F S768 .f32 := broadcastInDim S768 ![] bcast_S_S768 main_cst_4
  let main_v14 : IVec S768 1 := cmpf .olt main_v12 main_v13
  let main_c_5 : IVec S_ 1 := constantI S_ 1 1#1
  let main_v15 : IVec S_ 1 := (fun x v => Host.reduce IntOp.andi x v reducesTo_S768_S_d0 h_S_) main_v14 main_c_5
  fn_part1 (F := F) main_arg4 main_arg5 main_v3 main_v7 main_v11 main_v15
-- ==== Kernel.lean ====
abbrev S2x4096x768 : Shape := ⟨3, ![2, 4096, 768]⟩
abbrev S768x768 : Shape := ⟨2, ![768, 768]⟩
abbrev S768 : Shape := ⟨1, ![768]⟩
abbrev S1x768 : Shape := ⟨2, ![1, 768]⟩
abbrev S2x2x4096x768 : Shape := ⟨4, ![2, 2, 4096, 768]⟩
abbrev S1x512x768 : Shape := ⟨3, ![1, 512, 768]⟩
abbrev S1x2x512x768 : Shape := ⟨4, ![1, 2, 512, 768]⟩
abbrev S512x768 : Shape := ⟨2, ![512, 768]⟩
abbrev S1x1x512x768 : Shape := ⟨4, ![1, 1, 512, 768]⟩
abbrev S2x8192x768 : Shape := ⟨3, ![2, 8192, 768]⟩
abbrev S2x1x4096 : Shape := ⟨3, ![2, 1, 4096]⟩
abbrev S1x256x768 : Shape := ⟨3, ![1, 256, 768]⟩
abbrev S1x6400x768 : Shape := ⟨3, ![1, 6400, 768]⟩
abbrev S1x1x4096 : Shape := ⟨3, ![1, 1, 4096]⟩
abbrev S256x768 : Shape := ⟨2, ![256, 768]⟩
abbrev S1x2304x768 : Shape := ⟨3, ![1, 2304, 768]⟩
abbrev S2304x768 : Shape := ⟨2, ![2304, 768]⟩
abbrev S512x2304 : Shape := ⟨2, ![512, 2304]⟩
abbrev S256x2304 : Shape := ⟨2, ![256, 2304]⟩
abbrev S128x2304 : Shape := ⟨2, ![128, 2304]⟩
abbrev S64x2304 : Shape := ⟨2, ![64, 2304]⟩
abbrev S32x2304 : Shape := ⟨2, ![32, 2304]⟩
abbrev S16x2304 : Shape := ⟨2, ![16, 2304]⟩
abbrev S8x2304 : Shape := ⟨2, ![8, 2304]⟩
abbrev S4x2304 : Shape := ⟨2, ![4, 2304]⟩
abbrev S2x2304 : Shape := ⟨2, ![2, 2304]⟩
abbrev S1x2304 : Shape := ⟨2, ![1, 2304]⟩
abbrev S1x1x2048 : Shape := ⟨3, ![1, 1, 2048]⟩
abbrev S1x2048 : Shape := ⟨2, ![1, 2048]⟩
abbrev S1x8 : Shape := ⟨2, ![1, 8]⟩
abbrev S2x1x128 : Shape := ⟨3, ![2, 1, 128]⟩
abbrev S2x4096 : Shape := ⟨2, ![2, 4096]⟩
abbrev S1x4096 : Shape := ⟨2, ![1, 4096]⟩
abbrev S1 : Shape := ⟨1, ![1]⟩
abbrev S1x1x1 : Shape := ⟨3, ![1, 1, 1]⟩
abbrev S1x1 : Shape := ⟨2, ![1, 1]⟩
abbrev S2x128 : Shape := ⟨2, ![2, 128]⟩
abbrev S2 : Shape := ⟨1, ![2]⟩
abbrev S2x1 : Shape := ⟨2, ![2, 1]⟩
abbrev S1x8192x768 : Shape := ⟨3, ![1, 8192, 768]⟩
abbrev S1x1x128 : Shape := ⟨3, ![1, 1, 128]⟩
abbrev S1x264x768 : Shape := ⟨3, ![1, 264, 768]⟩
abbrev S264x768 : Shape := ⟨2, ![264, 768]⟩

abbrev nBuf : Space → Nat
  | .hbm => 24
  | .vmem => 40
  | .smem => 2
  | _ => 0

abbrev bufTy : (tb : Table) → Fin (tcTables nBuf tb) → BufTy
  | .hbm, ⟨0, _⟩ => ⟨S2x4096x768, .f32⟩
  | .hbm, ⟨1, _⟩ => ⟨S2x4096x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S1x768, .f32⟩
  | .hbm, ⟨9, _⟩ => ⟨S1x768, .f32⟩
  | .hbm, ⟨10, _⟩ => ⟨S2x2x4096x768, .bf16⟩
  | .hbm, ⟨11, _⟩ => ⟨S2x2x4096x768, .bf16⟩
  | .hbm, ⟨12, _⟩ => ⟨S2x4096x768, .bf16⟩
  | .hbm, ⟨13, _⟩ => ⟨S2x4096x768, .bf16⟩
  | .hbm, ⟨14, _⟩ => ⟨S2x2x4096x768, .bf16⟩
  | .hbm, ⟨15, _⟩ => ⟨S2x8192x768, .bf16⟩
  | .hbm, ⟨16, _⟩ => ⟨S2x8192x768, .bf16⟩
  | .hbm, ⟨17, _⟩ => ⟨S2x8192x768, .bf16⟩
  | .hbm, ⟨18, _⟩ => ⟨S2x1x4096, .f32⟩
  | .hbm, ⟨19, _⟩ => ⟨S1x8, .i32⟩
  | .hbm, ⟨20, _⟩ => ⟨S2x1x128, .f32⟩
  | .hbm, ⟨21, _⟩ => ⟨S1x768, .f32⟩
  | .hbm, ⟨22, _⟩ => ⟨S2x4096x768, .f32⟩
  | .hbm, ⟨23, _⟩ => ⟨S2x4096x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S1x2x512x768, .bf16⟩
  | .local _ .vmem, ⟨9, _⟩ => ⟨S1x2x512x768, .bf16⟩
  | .local _ .vmem, ⟨10, _⟩ => ⟨S1x2x512x768, .bf16⟩
  | .local _ .vmem, ⟨11, _⟩ => ⟨S1x2x512x768, .bf16⟩
  | .local _ .vmem, ⟨12, _⟩ => ⟨S1x512x768, .bf16⟩
  | .local _ .vmem, ⟨13, _⟩ => ⟨S1x512x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x2x512x768, .bf16⟩
  | .local _ .vmem, ⟨17, _⟩ => ⟨S1x2x512x768, .bf16⟩
  | .local _ .vmem, ⟨18, _⟩ => ⟨S1x256x768, .bf16⟩
  | .local _ .vmem, ⟨19, _⟩ => ⟨S1x256x768, .bf16⟩
  | .local _ .vmem, ⟨20, _⟩ => ⟨S1x256x768, .bf16⟩
  | .local _ .vmem, ⟨21, _⟩ => ⟨S1x256x768, .bf16⟩
  | .local _ .vmem, ⟨22, _⟩ => ⟨S1x6400x768, .bf16⟩
  | .local _ .vmem, ⟨23, _⟩ => ⟨S1x6400x768, .bf16⟩
  | .local _ .vmem, ⟨24, _⟩ => ⟨S1x6400x768, .bf16⟩
  | .local _ .vmem, ⟨25, _⟩ => ⟨S1x6400x768, .bf16⟩
  | .local _ .vmem, ⟨26, _⟩ => ⟨S1x1x4096, .f32⟩
  | .local _ .vmem, ⟨27, _⟩ => ⟨S1x1x4096, .f32⟩
  | .local _ .vmem, ⟨28, _⟩ => ⟨S2x1x4096, .f32⟩
  | .local _ .vmem, ⟨29, _⟩ => ⟨S2x1x128, .f32⟩
  | .local _ .vmem, ⟨30, _⟩ => ⟨S1x8192x768, .bf16⟩
  | .local _ .vmem, ⟨31, _⟩ => ⟨S1x8192x768, .bf16⟩
  | .local _ .vmem, ⟨32, _⟩ => ⟨S1x1x128, .f32⟩
  | .local _ .vmem, ⟨33, _⟩ => ⟨S1x1x128, .f32⟩
  | .local _ .vmem, ⟨34, _⟩ => ⟨S768x768, .f32⟩
  | .local _ .vmem, ⟨35, _⟩ => ⟨S1x768, .f32⟩
  | .local _ .vmem, ⟨36, _⟩ => ⟨S1x256x768, .f32⟩
  | .local _ .vmem, ⟨37, _⟩ => ⟨S1x256x768, .f32⟩
  | .local _ .vmem, ⟨38, _⟩ => ⟨S1x256x768, .f32⟩
  | .local _ .vmem, ⟨39, _⟩ => ⟨S1x256x768, .f32⟩
  | .local _ .smem, ⟨0, _⟩ => ⟨S1x8, .i32⟩
  | .local _ .smem, ⟨1, _⟩ => ⟨S1x8, .i32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg2_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc2_stg1_0 : Ref sig .tc := ⟨.smem, 0, rfl⟩
abbrev cc3_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem1_0 : DmaSem sig := 29
abbrev cc2_sem2_0 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 16], ![false, false]⟩

def k1_mult1 (i : grid1.Coords) : BitVec 32 :=
  let arg1 : BitVec 32 := BitVec.ofNat 32 (i 1).val
  let c256_i32 : BitVec 32 := 256#32
  let v0 : BitVec 32 := Scalar.muli arg1 c256_i32
  let c0_i32_6 : BitVec 32 := 0#32
  let v9 : BitVec 32 := Scalar.addi v0 c0_i32_6
  let c4096_i32 : BitVec 32 := 4096#32
  let v10 : BitVec 32 := Scalar.remsi v9 c4096_i32
  v10
def k1_off1 (i : grid1.Coords) (c0_i32_6 : BitVec 32) : Fin 3 → Nat :=
  let c0_7 : Index := 0#32
  let arg1 : BitVec 32 := BitVec.ofNat 32 (i 1).val
  let c256_i32 : BitVec 32 := 256#32
  let v0 : BitVec 32 := Scalar.muli arg1 c256_i32
  let v9 : BitVec 32 := Scalar.addi v0 c0_i32_6
  let c4096_i32 : BitVec 32 := 4096#32
  let v10 : BitVec 32 := Scalar.remsi v9 c4096_i32
  let v11 : BitVec 32 := v10
  let v12 : Index := Scalar.indexCast v11
  let c0_8 : Index := 0#32
  ![0, v12.toNat, 0]
def k1_mult2 (i : grid1.Coords) : BitVec 32 :=
  let arg1 : BitVec 32 := BitVec.ofNat 32 (i 1).val
  let c256_i32 : BitVec 32 := 256#32
  let v0 : BitVec 32 := Scalar.muli arg1 c256_i32
  let c2048_i32 : BitVec 32 := 2048#32
  let v65 : BitVec 32 := Scalar.addi v0 c2048_i32
  let c4096_i32_19 : BitVec 32 := 4096#32
  let v66 : BitVec 32 := Scalar.remsi v65 c4096_i32_19
  v66
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x6400x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x6400x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := .none

abbrev stage2_0 : Fin 1 → Memref sig .tc .vmem S2x1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x8 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨2, ![2, 16], ![false, false]⟩

def k3_mult1 (i : grid3.Coords) (v1 : BitVec 32) : BitVec 32 :=
  let arg1 : BitVec 32 := BitVec.ofNat 32 (i 1).val
  let c256_i32 : BitVec 32 := 256#32
  let v0 : BitVec 32 := Scalar.muli arg1 c256_i32
  let c0_i32 : BitVec 32 := 0#32
  let v6 : BitVec 1 := Scalar.cmpi .sgt v1 c0_i32
  let v7 : BitVec 32 := Scalar.extui v6
  let c0_i32_4 : BitVec 32 := 0#32
  let v8 : BitVec 1 := Scalar.cmpi .slt v1 c0_i32_4
  let v9 : BitVec 32 := Scalar.extui v8
  let v10 : BitVec 32 := Scalar.subi v7 v9
  let c8_i32 : BitVec 32 := 8#32
  let c0_i32_5 : BitVec 32 := 0#32
  let v11 : BitVec 1 := Scalar.cmpi .sgt c8_i32 c0_i32_5
  let v12 : BitVec 32 := Scalar.extui v11
  let c0_i32_6 : BitVec 32 := 0#32
  let v13 : BitVec 1 := Scalar.cmpi .slt c8_i32 c0_i32_6
  let v14 : BitVec 32 := Scalar.extui v13
  let v15 : BitVec 32 := Scalar.subi v12 v14
  let v16 : BitVec 1 := Scalar.cmpi .ne v10 v15
  let v17 : BitVec 32 := Scalar.remsi v1 c8_i32
  let c0_i32_7 : BitVec 32 := 0#32
  let v18 : BitVec 1 := Scalar.cmpi .ne v17 c0_i32_7
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_8 : BitVec 32 := 8#32
  let v22 : BitVec 32 := Scalar.muli v21 c8_i32_8
  let v23 : BitVec 32 := Scalar.addi v0 v22
  v23

def k3_off1 (i : grid3.Coords) (v1 : BitVec 32) : Fin 3 → Nat :=
  let c0_15 : Index := 0#32
  let arg1 : BitVec 32 := BitVec.ofNat 32 (i 1).val
  let c256_i32 : BitVec 32 := 256#32
  let v0 : BitVec 32 := Scalar.muli arg1 c256_i32
  let c0_i32 : BitVec 32 := 0#32
  let v6 : BitVec 1 := Scalar.cmpi .sgt v1 c0_i32
  let v7 : BitVec 32 := Scalar.extui v6
  let c0_i32_4 : BitVec 32 := 0#32
  let v8 : BitVec 1 := Scalar.cmpi .slt v1 c0_i32_4
  let v9 : BitVec 32 := Scalar.extui v8
  let v10 : BitVec 32 := Scalar.subi v7 v9
  let c8_i32 : BitVec 32 := 8#32
  let c0_i32_5 : BitVec 32 := 0#32
  let v11 : BitVec 1 := Scalar.cmpi .sgt c8_i32 c0_i32_5
  let v12 : BitVec 32 := Scalar.extui v11
  let c0_i32_6 : BitVec 32 := 0#32
  let v13 : BitVec 1 := Scalar.cmpi .slt c8_i32 c0_i32_6
  let v14 : BitVec 32 := Scalar.extui v13
  let v15 : BitVec 32 := Scalar.subi v12 v14
  let v16 : BitVec 1 := Scalar.cmpi .ne v10 v15
  let v17 : BitVec 32 := Scalar.remsi v1 c8_i32
  let c0_i32_7 : BitVec 32 := 0#32
  let v18 : BitVec 1 := Scalar.cmpi .ne v17 c0_i32_7
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_8 : BitVec 32 := 8#32
  let v22 : BitVec 32 := Scalar.muli v21 c8_i32_8
  let v23 : BitVec 32 := Scalar.addi v0 v22
  let v24 : BitVec 32 := v23
  let v35 : Index := Scalar.indexCast v24
  let c0_16 : Index := 0#32
  ![0, v35.toNat, 0]

def k3_chk1 (i : grid3.Coords) (v1 : BitVec 32) : Prop :=
  (8 ∣ (k3_mult1 i v1).toNat) ∧
  (∀ a, (k3_off1 i v1) a + S1x264x768.size a ≤ S1x8192x768.size a)
theorem k3_mult1_dvd : ∀ (i : grid3.Coords) (v1 : BitVec 32) (k3_hw1 : k3_chk1 i v1), 8 ∣ (k3_mult1 i v1).toNat := fun i v1 k3_hw1 => k3_hw1.1
theorem k3_off1_inb : ∀ (i : grid3.Coords) (v1 : BitVec 32) (k3_hw1 : k3_chk1 i v1), ∀ a, (k3_off1 i v1) a + S1x264x768.size a ≤ S1x8192x768.size a := fun i v1 k3_hw1 => k3_hw1.2

def k3_mult2 (i : grid3.Coords) (v2 : BitVec 32) : BitVec 32 :=
  let arg1 : BitVec 32 := BitVec.ofNat 32 (i 1).val
  let c256_i32 : BitVec 32 := 256#32
  let v0 : BitVec 32 := Scalar.muli arg1 c256_i32
  let c0_i32_27 : BitVec 32 := 0#32
  let v55 : BitVec 1 := Scalar.cmpi .sgt v2 c0_i32_27
  let v56 : BitVec 32 := Scalar.extui v55
  let c0_i32_28 : BitVec 32 := 0#32
  let v57 : BitVec 1 := Scalar.cmpi .slt v2 c0_i32_28
  let v58 : BitVec 32 := Scalar.extui v57
  let v59 : BitVec 32 := Scalar.subi v56 v58
  let c8_i32_26 : BitVec 32 := 8#32
  let c0_i32_29 : BitVec 32 := 0#32
  let v60 : BitVec 1 := Scalar.cmpi .sgt c8_i32_26 c0_i32_29
  let v61 : BitVec 32 := Scalar.extui v60
  let c0_i32_30 : BitVec 32 := 0#32
  let v62 : BitVec 1 := Scalar.cmpi .slt c8_i32_26 c0_i32_30
  let v63 : BitVec 32 := Scalar.extui v62
  let v64 : BitVec 32 := Scalar.subi v61 v63
  let v65 : BitVec 1 := Scalar.cmpi .ne v59 v64
  let v66 : BitVec 32 := Scalar.remsi v2 c8_i32_26
  let c0_i32_31 : BitVec 32 := 0#32
  let v67 : BitVec 1 := Scalar.cmpi .ne v66 c0_i32_31
  let v68 : BitVec 1 := Scalar.andi v65 v67
  let v54 : BitVec 32 := Scalar.divsi v2 c8_i32_26
  let c1_i32_32 : BitVec 32 := 1#32
  let v69 : BitVec 32 := Scalar.subi v54 c1_i32_32
  let v70 : BitVec 32 := Scalar.select v68 v69 v54
  let c8_i32_33 : BitVec 32 := 8#32
  let v71 : BitVec 32 := Scalar.muli v70 c8_i32_33
  let v72 : BitVec 32 := Scalar.addi v0 v71
  v72

def k3_off2 (i : grid3.Coords) (v2 : BitVec 32) : Fin 3 → Nat :=
  let c0_40 : Index := 0#32
  let arg1 : BitVec 32 := BitVec.ofNat 32 (i 1).val
  let c256_i32 : BitVec 32 := 256#32
  let v0 : BitVec 32 := Scalar.muli arg1 c256_i32
  let c0_i32_27 : BitVec 32 := 0#32
  let v55 : BitVec 1 := Scalar.cmpi .sgt v2 c0_i32_27
  let v56 : BitVec 32 := Scalar.extui v55
  let c0_i32_28 : BitVec 32 := 0#32
  let v57 : BitVec 1 := Scalar.cmpi .slt v2 c0_i32_28
  let v58 : BitVec 32 := Scalar.extui v57
  let v59 : BitVec 32 := Scalar.subi v56 v58
  let c8_i32_26 : BitVec 32 := 8#32
  let c0_i32_29 : BitVec 32 := 0#32
  let v60 : BitVec 1 := Scalar.cmpi .sgt c8_i32_26 c0_i32_29
  let v61 : BitVec 32 := Scalar.extui v60
  let c0_i32_30 : BitVec 32 := 0#32
  let v62 : BitVec 1 := Scalar.cmpi .slt c8_i32_26 c0_i32_30
  let v63 : BitVec 32 := Scalar.extui v62
  let v64 : BitVec 32 := Scalar.subi v61 v63
  let v65 : BitVec 1 := Scalar.cmpi .ne v59 v64
  let v66 : BitVec 32 := Scalar.remsi v2 c8_i32_26
  let c0_i32_31 : BitVec 32 := 0#32
  let v67 : BitVec 1 := Scalar.cmpi .ne v66 c0_i32_31
  let v68 : BitVec 1 := Scalar.andi v65 v67
  let v54 : BitVec 32 := Scalar.divsi v2 c8_i32_26
  let c1_i32_32 : BitVec 32 := 1#32
  let v69 : BitVec 32 := Scalar.subi v54 c1_i32_32
  let v70 : BitVec 32 := Scalar.select v68 v69 v54
  let c8_i32_33 : BitVec 32 := 8#32
  let v71 : BitVec 32 := Scalar.muli v70 c8_i32_33
  let v72 : BitVec 32 := Scalar.addi v0 v71
  let v73 : BitVec 32 := v72
  let v84 : Index := Scalar.indexCast v73
  let c0_41 : Index := 0#32
  ![0, v84.toNat, 0]

def k3_chk2 (i : grid3.Coords) (v2 : BitVec 32) : Prop :=
  (8 ∣ (k3_mult2 i v2).toNat) ∧
  (∀ a, (k3_off2 i v2) a + S1x264x768.size a ≤ S1x8192x768.size a)
theorem k3_mult2_dvd : ∀ (i : grid3.Coords) (v2 : BitVec 32) (k3_hw2 : k3_chk2 i v2), 8 ∣ (k3_mult2 i v2).toNat := fun i v2 k3_hw2 => k3_hw2.1
theorem k3_off2_inb : ∀ (i : grid3.Coords) (v2 : BitVec 32) (k3_hw2 : k3_chk2 i v2), ∀ a, (k3_off2 i v2) a + S1x264x768.size a ≤ S1x8192x768.size a := fun i v2 k3_hw2 => k3_hw2.2

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x8192x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .smem S1x8 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S768x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== KernelIdeal.lean ====
variable {F : FTy → Type} [FloatOps F] [Named F]
def κ : String → Option EReal := fun
  | "inv_d" => some ((768⁻¹ : ℝ) : EReal)
  | "mask" => some ⊥
  | _ => none
-- ==== ReferenceIdeal.lean ====
abbrev S2x4096x768 : Shape := ⟨3, ![2, 4096, 768]⟩
abbrev S768x768 : Shape := ⟨2, ![768, 768]⟩
abbrev S768 : Shape := ⟨1, ![768]⟩
abbrev S1x1x768 : Shape := ⟨3, ![1, 1, 768]⟩
abbrev S4096x4096 : Shape := ⟨2, ![4096, 4096]⟩
abbrev S_ : Shape := ⟨0, ![]⟩
abbrev S4096x4096x1 : Shape := ⟨3, ![4096, 4096, 1]⟩
abbrev S2x4096x4096x768 : Shape := ⟨4, ![2, 4096, 4096, 768]⟩
abbrev S2x1x4096x768 : Shape := ⟨4, ![2, 1, 4096, 768]⟩
abbrev S2x4096 : Shape := ⟨2, ![2, 4096]⟩
abbrev S4096 : Shape := ⟨1, ![4096]⟩
abbrev S5 : Shape := ⟨1, ![5]⟩
abbrev S5x1 : Shape := ⟨2, ![5, 1]⟩
abbrev S2x5 : Shape := ⟨2, ![2, 5]⟩
abbrev S2 : Shape := ⟨1, ![2]⟩
abbrev S2x1 : Shape := ⟨2, ![2, 1]⟩
abbrev S1 : Shape := ⟨1, ![1]⟩
abbrev S4096x1 : Shape := ⟨2, ![4096, 1]⟩
abbrev S2x1x1 : Shape := ⟨3, ![2, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S2x4096x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S2x4096x768, .f32⟩
  | .hbm, ⟨10, _⟩ => ⟨S1x1x768, .f32⟩
  | .hbm, ⟨11, _⟩ => ⟨S2x4096x768, .f32⟩
  | .hbm, ⟨12, _⟩ => ⟨S2x4096x768, .f32⟩
  | .hbm, ⟨13, _⟩ => ⟨S768x768, .f32⟩
  | .hbm, ⟨14, _⟩ => ⟨S2x4096x768, .f32⟩
  | .hbm, ⟨15, _⟩ => ⟨S1x1x768, .f32⟩
  | .hbm, ⟨16, _⟩ => ⟨S2x4096x768, .f32⟩
  | .hbm, ⟨17, _⟩ => ⟨S2x4096x768, .f32⟩
  | .hbm, ⟨18, _⟩ => ⟨S768x768, .f32⟩
  | .hbm, ⟨19, _⟩ => ⟨S2x4096x768, .f32⟩
  | .hbm, ⟨20, _⟩ => ⟨S1x1x768, .f32⟩
  | .hbm, ⟨21, _⟩ => ⟨S2x4096x768, .f32⟩
  | .hbm, ⟨22, _⟩ => ⟨S2x4096x768, .f32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096x1, .i32⟩
  | .hbm, ⟨30, _⟩ => ⟨S2x4096x4096x768, .f32⟩
  | .hbm, ⟨31, _⟩ => ⟨S2x1x4096x768, .f32⟩
  | .hbm, ⟨32, _⟩ => ⟨S2x4096x4096x768, .f32⟩
  | .hbm, ⟨33, _⟩ => ⟨S2x4096x4096x768, .f32⟩
  | .hbm, ⟨34, _⟩ => ⟨S_, .f32⟩
  | .hbm, ⟨35, _⟩ => ⟨S2x4096x768, .f32⟩
  | .hbm, ⟨36, _⟩ => ⟨S_, .f32⟩
  | .hbm, ⟨37, _⟩ => ⟨S2x4096, .f32⟩
  | .hbm, ⟨38, _⟩ => ⟨S_, .f32⟩
  | .hbm, ⟨39, _⟩ => ⟨S2x4096, .f32⟩
  | .hbm, ⟨40, _⟩ => ⟨S2x4096, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S5, .f32⟩
  | .hbm, ⟨47, _⟩ => ⟨S5, .i32⟩
  | .hbm, ⟨48, _⟩ => ⟨S5x1, .i32⟩
  | .hbm, ⟨49, _⟩ => ⟨S2x5, .f32⟩
  | .hbm, ⟨50, _⟩ => ⟨S_, .f32⟩
  | .hbm, ⟨51, _⟩ => ⟨S2x5, .f32⟩
  | .hbm, ⟨52, _⟩ => ⟨S2x5, .f32⟩
  | .hbm, ⟨53, _⟩ => ⟨S_, .f32⟩
  | .hbm, ⟨54, _⟩ => ⟨S2, .f32⟩
  | .hbm, ⟨55, _⟩ => ⟨S_, .f32⟩
  | .hbm, ⟨56, _⟩ => ⟨S2, .f32⟩
  | .hbm, ⟨57, _⟩ => ⟨S2, .f32⟩
  | .hbm, ⟨58, _⟩ => ⟨S2x1, .f32⟩
  | .hbm, ⟨59, _⟩ => ⟨S2x5, .f32⟩
  | .hbm, ⟨60, _⟩ => ⟨S2x5, .f32⟩
  | .hbm, ⟨61, _⟩ => ⟨S2x5, .f32⟩
  | .hbm, ⟨62, _⟩ => ⟨S_, .f32⟩
  | .hbm, ⟨63, _⟩ => ⟨S2, .f32⟩
  | .hbm, ⟨64, _⟩ => ⟨S2x1, .f32⟩
  | .hbm, ⟨65, _⟩ => ⟨S2x5, .f32⟩
  | .hbm, ⟨66, _⟩ => ⟨S2x5, .f32⟩
  | .hbm, ⟨67, _⟩ => ⟨S4096, .i32⟩
  | .hbm, ⟨68, _⟩ => ⟨S1, .i32⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S2x4096x768, .f32⟩
  | .hbm, ⟨77, _⟩ => ⟨S2x1, .f32⟩
  | .hbm, ⟨78, _⟩ => ⟨S2, .f32⟩
  | .hbm, ⟨79, _⟩ => ⟨S2x1x1, .f32⟩
  | .hbm, ⟨80, _⟩ => ⟨S2x4096x768, .f32⟩
  | .hbm, ⟨81, _⟩ => ⟨S2x4096x768, .f32⟩
  | .hbm, ⟨82, _⟩ => ⟨S1, .i32⟩
  | .hbm, ⟨83, _⟩ => ⟨S_, .i32⟩
  | .hbm, ⟨84, _⟩ => ⟨S4096, .i32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096x1, .i32⟩
  | .hbm, ⟨90, _⟩ => ⟨S2x4096x768, .f32⟩
  | .hbm, ⟨91, _⟩ => ⟨S2x1, .f32⟩
  | .hbm, ⟨92, _⟩ => ⟨S2, .f32⟩
  | .hbm, ⟨93, _⟩ => ⟨S2x1x1, .f32⟩
  | .hbm, ⟨94, _⟩ => ⟨S2x4096x768, .f32⟩
  | .hbm, ⟨95, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_values : Ref sig .tc := ⟨.hbm, 46, rfl⟩
abbrev main_indices : Ref sig .tc := ⟨.hbm, 47, rfl⟩
abbrev main_call1_v0 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_call2_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_9 : Ref sig .tc := ⟨.hbm, 86, rfl⟩
abbrev main_v62 : Ref sig .tc := ⟨.hbm, 87, rfl⟩
abbrev main_v63 : Ref sig .tc := ⟨.hbm, 88, rfl⟩
abbrev main_call3_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Proof.Kernel.Rounds.lean ====
/-
The third call: five rounds, each of which finds the greatest entry of a row, the first lane that holds it,
and takes that lane out.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.Kernel.Region2

public import proofs.«01_k».proof.Proof.Kernel.Region3
public import Idealize.ShloMosaic.Lib.WordSum
public import Idealize.ShloMosaic.Lib.VecWindow
public import Idealize.ShloMosaic.Lib.Pipeline.ValueKit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The lane numbers. -/
def lanes : IVec S1x4096 32 := iota .tc S1x4096 32 [1] iota_S1x4096_d1_w32

/-- The greatest entry of a row. -/
def peak (u : FVec F S1x4096 .f32) : F .f32 :=
  extractAt ![0, 0, 0] (shapeCast S1x1x1 (multiReduction .maximumf [1, 2] S1 (shapeCast S1x1x4096 u shapeCasts_S1x4096_S1x1x4096)
    0xFF800000#32 reduces_S1x1x4096_S1 (.inl rfl) rfl) shapeCasts_S1_S1x1x1) inpos_S1x1x1_p0_0_0

/-- The first lane that holds the greatest entry. -/
def spot (u : FVec F S1x4096 .f32) : BitVec 32 :=
  extractAt ![0, 0, 0] (shapeCast S1x1x1 (multiReductionI .minsi [1, 2] S1 (shapeCast S1x1x4096
    (select (cmpf .oeq u (broadcast S1x4096 (peak u))) lanes (broadcast S1x4096 4096#32)) shapeCasts_S1x4096_S1x1x4096)
    2147483647#32 reduces_S1x1x4096_S1 rfl) shapeCasts_S1_S1x1x1) inpos_S1x1x1_p0_0_0

/-- The mask of that lane. -/
def mark (u : FVec F S1x4096 .f32) : IVec S1x4096 1 := cmpi .eq lanes (broadcast S1x4096 (spot u))

/-- The number of the lane that a mask marks. -/
def wordOf (p : IVec S1x4096 1) : BitVec 32 :=
  extractAt ![0, 0, 0] (shapeCast S1x1x1 (multiReductionI .add [1, 2] S1 (shapeCast S1x1x4096
    (select p lanes (broadcast S1x4096 0#32)) shapeCasts_S1x4096_S1x1x4096)
    0#32 reduces_S1x1x4096_S1 rfl) shapeCasts_S1_S1x1x1) inpos_S1x1x1_p0_0_0

/-- The entry of a row that a mask marks. -/
def entryOf (p : IVec S1x4096 1) (r : FVec F S1x4096 .f32) : F .f32 :=
  extractAt ![0, 0, 0] (shapeCast S1x1x1 (multiReduction .add [1, 2] S1 (shapeCast S1x1x4096
    (select p r (broadcast S1x4096 (Scalar.ofBits .f32 0x00000000#32))) shapeCasts_S1x4096_S1x1x4096)
    0x00000000#32 reduces_S1x1x4096_S1 (.inl rfl) rfl) shapeCasts_S1_S1x1x1) inpos_S1x1x1_p0_0_0

/-- The row with that lane taken out. -/
def without (u : FVec F S1x4096 .f32) : FVec F S1x4096 .f32 :=
  select (mark u) (broadcast S1x4096 (Scalar.ofBits .f32 0xFF61B1E6#32)) u

/-- The rows of the five rounds: the mean over the batch, then one lane fewer each time. -/
def round0 (x : Vec F S2x1x4096 .f32) : FVec F S1x4096 .f32 := k2_pay2 x
def round1 (x : Vec F S2x1x4096 .f32) : FVec F S1x4096 .f32 := without (round0 x)
def round2 (x : Vec F S2x1x4096 .f32) : FVec F S1x4096 .f32 := without (round1 x)
def round3 (x : Vec F S2x1x4096 .f32) : FVec F S1x4096 .f32 := without (round2 x)
def round4 (x : Vec F S2x1x4096 .f32) : FVec F S1x4096 .f32 := without (round3 x)

/-- The two rows of the batch. -/
def rowA (x : Vec F S2x1x4096 .f32) : FVec F S1x4096 .f32 := extractStridedSlice S1x4096 ![0, 0] (k2_pay1 x) slices_S2x4096_o0_0_S1x4096
def rowB (x : Vec F S2x1x4096 .f32) : FVec F S1x4096 .f32 := extractStridedSlice S1x4096 ![1, 0] (k2_pay1 x) slices_S2x4096_o1_0_S1x4096

/-- The softmax over the entries at the five lanes. -/
def weights (x : Vec F S2x1x4096 .f32) : FVec F S2x1x128 .f32 :=
  k2_pay30 (entryOf (mark (round3 x)) (rowA x)) (entryOf (mark (round3 x)) (rowB x))
    (entryOf (mark (round4 x)) (rowA x)) (entryOf (mark (round4 x)) (rowB x))
    (iota .tc S2x128 32 [1] iota_S2x128_d1_w32) (iota .tc S2x128 32 [0] iota_S2x128_d0_w32)
    (k2_pay27 (entryOf (mark (round0 x)) (rowA x)) (entryOf (mark (round0 x)) (rowB x))
      (entryOf (mark (round1 x)) (rowA x)) (entryOf (mark (round1 x)) (rowB x)))
    k2_pay28 (k2_pay29 (entryOf (mark (round2 x)) (rowA x)) (entryOf (mark (round2 x)) (rowB x)))
    (Scalar.ofBits .f32 0x00000000#32)

/-- The block that the third call loads. -/
def loaded (arg0 : Memref sig .tc .vmem S2x1x4096 .f32) (harg0 : arg0.IsWhole) (x0 : Vec F S2x1x4096 .f32) : Vec F S2x1x4096 .f32 :=
  View.readAt (Elt F) arg0.view (Rect.unit (s := S2x1x4096) ![0, 0, 0] S2x1x4096.size inb_S2x1x4096_S2x1x4096_0_0_0).toLoadRect (harg0.unread x0)

theorem loaded_eq (arg0 : Memref sig .tc .vmem S2x1x4096 .f32) (harg0 : arg0.IsWhole) (x0 : Vec F S2x1x4096 .f32) :
    loaded arg0 harg0 x0 = x0 := by
  funext j
  refine (harg0.readAt_unread x0 (Rect.unit (s := S2x1x4096) ![0, 0, 0] S2x1x4096.size inb_S2x1x4096_S2x1x4096_0_0_0).toLoadRect j).trans (congrArg x0 ?_)
  funext a
  apply Fin.ext
  show (![0, 0, 0] : Fin 3 → ℕ) a + 1 * (j a).val = (j a).val
  fin_cases a <;> simp

section
variable (c : Dev nD) (a : Memref sig .tc .vmem S2x1x4096 .f32) (h : a.IsWhole) (x : Vec F S2x1x4096 .f32)

theorem run2_v2 : kernelRun2_A.sl.r_1 c a h x = k2_pay1 (loaded a h x) := rfl
theorem run2_v7 : kernelRun2_A.sl.r_2 c a h x = round0 (loaded a h x) := rfl
theorem run2_v22 : kernelRun2_A.sl.r_3 c a h x = mark (round0 (loaded a h x)) := rfl
theorem run2_r4 : kernelRun2_A.sl.r_9 c a h x = round2 (loaded a h x) := by
  unfold kernelRun2_A.sl.r_9; rw [run2_v7, run2_v22]; rfl
theorem run2_r5 : kernelRun2_A.sl.r_10 c a h x = cmpf .oeq (round2 (loaded a h x)) (broadcast S1x4096 (peak (round2 (loaded a h x)))) := by
  unfold kernelRun2_A.sl.r_10; rw [run2_v7, run2_v22]; rfl
theorem run2_r9 : kernelRun2_A.sl.r_14 c a h x = round3 (loaded a h x) := by
  unfold kernelRun2_A.sl.r_14; rw [run2_r4, run2_r5]; rfl
theorem run2_r10 : kernelRun2_A.sl.r_15 c a h x = mark (round3 (loaded a h x)) := by
  unfold kernelRun2_A.sl.r_15; rw [run2_r4, run2_r5]; rfl
theorem run2_v28 : kernelRun2_A.sl.v28 c a h x = wordOf (mark (round0 (loaded a h x))) := rfl
theorem run2_v65 : kernelRun2_A.sl.v65 c a h x = wordOf (mark (round1 (loaded a h x))) := by
  unfold kernelRun2_A.sl.v65; rw [run2_v7, run2_v22]; rfl
theorem run2_v102 : kernelRun2_A.sl.v102 c a h x = wordOf (mark (round2 (loaded a h x))) := by
  unfold kernelRun2_A.sl.v102; rw [run2_r5]; rfl
theorem run2_v139 : kernelRun2_A.sl.v139 c a h x = wordOf (mark (round3 (loaded a h x))) := by
  unfold kernelRun2_A.sl.v139; rw [run2_r10]; rfl
theorem run2_v176 : kernelRun2_A.sl.v176 c a h x = wordOf (mark (round4 (loaded a h x))) := by
  unfold kernelRun2_A.sl.v176; rw [run2_r9, run2_r10]; rfl
end

/-- The five words stored. -/
theorem words2_eq (c : Dev nD) (t : Fin cfg2.N) : words2 V c t =
    [⟨Rect.unit (s := S1x8) ![0, 4] ![1, 1] (by decide), fun _ => wordOf (mark (round4 (iblk2 V c 0 t)))⟩,
     ⟨Rect.unit (s := S1x8) ![0, 3] ![1, 1] (by decide), fun _ => wordOf (mark (round3 (iblk2 V c 0 t)))⟩,
     ⟨Rect.unit (s := S1x8) ![0, 2] ![1, 1] (by decide), fun _ => wordOf (mark (round2 (iblk2 V c 0 t)))⟩,
     ⟨Rect.unit (s := S1x8) ![0, 1] ![1, 1] (by decide), fun _ => wordOf (mark (round1 (iblk2 V c 0 t)))⟩,
     ⟨Rect.unit (s := S1x8) ![0, 0] ![1, 1] (by decide), fun _ => wordOf (mark (round0 (iblk2 V c 0 t)))⟩] := by
  unfold words2 kernelRun2_A
  dsimp only
  rw [run2_v28, run2_v65, run2_v102, run2_v139, run2_v176, loaded_eq]

theorem lanes_apply (i : S1x4096.Idx) : lanes i = BitVec.ofNat 32 (i 1).val := by
  unfold lanes iota
  congr 1
  simp

/-- A sum of all the lanes of a row of words. -/
theorem total_words (x : IVec S1x1x4096 32) (h : (0#32 : BitVec 32) = IKind.add.neutral) (j : S1.Idx) :
    multiReductionI .add [1, 2] S1 x 0#32 reduces_S1x1x4096_S1 h j = ∑ i, x i := by
  rw [multiReductionI_eq_reduceFold]
  refine (reduceFold_add_eq_sum _ _ _ _).trans ?_
  rw [show (0#32 : BitVec 32) = 0 from rfl, zero_add, Finset.filter_true_of_mem fun i _ => ?_]
  funext a
  fin_cases a
  exact Subsingleton.elim (α := Fin 1) _ _

theorem mark_select (v : BitVec 32) (q : S1x4096.Idx) :
    select (cmpi .eq lanes (broadcast S1x4096 v)) lanes (broadcast S1x4096 0#32) q = if lanes q = v then v else 0 := by
  show (if BitVec.ofBool (lanes q == v) = 1 then lanes q else 0#32) = _
  by_cases h : lanes q = v
  · rw [if_pos h, beq_iff_eq.2 h]; exact h
  · rw [if_neg h, beq_eq_false_iff_ne.2 h]; rfl

/-- The sum that reads a lane's number off a mask. -/
theorem wordOf_eq (v : BitVec 32) : wordOf (cmpi .eq lanes (broadcast S1x4096 v))
    = ∑ i : S1x1x4096.Idx, (if lanes (Shape.reshapeEquiv shapeCasts_S1x4096_S1x1x4096 i) = v then v else 0) := by
  refine (total_words _ rfl _).trans (Finset.sum_congr rfl fun i _ => ?_)
  exact mark_select v _

theorem lanes_inj {i j : S1x4096.Idx} (h : lanes i = lanes j) : i = j := by
  rw [lanes_apply, lanes_apply] at h
  have h1 : (i 1).val < 4096 := (i 1).isLt
  have h2 : (j 1).val < 4096 := (j 1).isLt
  have h3 := congrArg BitVec.toNat h
  rw [BitVec.toNat_ofNat, BitVec.toNat_ofNat, Nat.mod_eq_of_lt (by omega), Nat.mod_eq_of_lt (by omega)] at h3
  funext a
  fin_cases a
  · exact Subsingleton.elim (α := Fin 1) _ _
  · exact Fin.ext h3

/-- The mask of a lane reads back as that lane. -/
theorem wordOf_lane (q : S1x4096.Idx) : wordOf (cmpi .eq lanes (broadcast S1x4096 (lanes q))) = lanes q := by
  rw [wordOf_eq]
  refine (Finset.sum_eq_single ((Shape.reshapeEquiv shapeCasts_S1x4096_S1x1x4096).symm q) (fun i _ hi => if_neg fun h => hi ?_)
    fun h => absurd (Finset.mem_univ _) h).trans ?_
  · rw [← lanes_inj h, Equiv.symm_apply_apply]
  · rw [Equiv.apply_symm_apply, if_pos rfl]

/-- A word that a mask of one lane reads back as is a lane's number, or zero. -/
theorem wordOf_lt (v : BitVec 32) : (wordOf (cmpi .eq lanes (broadcast S1x4096 v))).toNat < 4096 := by
  by_cases h : ∃ q, lanes q = v
  · obtain ⟨q, rfl⟩ := h
    rw [wordOf_lane, lanes_apply]
    have h1 : (q 1).val < 4096 := (q 1).isLt
    rw [BitVec.toNat_ofNat, Nat.mod_eq_of_lt (by omega)]
    exact h1
  · rw [wordOf_eq, Finset.sum_eq_zero fun i _ => if_neg fun e => h ⟨_, e⟩]
    decide

/-- The words of the third call are lane numbers. -/
theorem good_inRange (c : Dev nD) (t : Fin cfg2.N) (X : Vec F S1x8 .i32) (h : Rl2 V c 1 t X) : InRange X := by
  obtain ⟨f, rfl⟩ := h
  rw [words2_eq]
  intro y hy
  have h0 : (y 0).val = 0 := by have : (y 0).val < 1 := (y 0).isLt; omega
  rw [View.read_writes_cons_unit _ _ _ _ _ _ rfl, View.read_writes_cons_unit _ _ _ _ _ _ rfl, View.read_writes_cons_unit _ _ _ _ _ _ rfl,
    View.read_writes_cons_unit _ _ _ _ _ _ rfl, View.read_writes_cons_unit _ _ _ _ _ _ rfl]
  split
  · exact wordOf_lt _
  split
  · exact wordOf_lt _
  split
  · exact wordOf_lt _
  split
  · exact wordOf_lt _
  split
  · exact wordOf_lt _
  rename_i h4 h3 h2 h1 h0'
  simp [Fin.forall_fin_two, h0] at h4 h3 h2 h1 h0'
  omega

end Cert.Kernel.Hand

end
-- ==== Proof.KernelIdeal.Region0.lean ====
/-
The first call, which projects the two series: what its body leaves in each output block, as a function
of the blocks that it reads, and the obligation of the body at every point of the grid.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (V : (c : Dev nD) → (b : Ref sig .tc) → Buf (Elt F) ((c : Thread nD τ).loc b))

/-- The block of window `w` at point `t`, read from the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ × UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ × UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ × UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ × UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ × UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ × UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x768 := Rect.unit (s := S1x512x768) ![0, 0, 0] S1x512x768.size inb_S1x512x768_S1x512x768_0_0_0
abbrev r0_1 : Rect S768x768 := Rect.unit (s := S768x768) ![0, 0] S768x768.size inb_S768x768_S768x768_0_0
abbrev r0_2 : Rect S1x768 := Rect.unit (s := S1x768) ![0, 0] S1x768.size inb_S1x768_S1x768_0_0
abbrev r0_3 : Rect S1x2x512x768 := Rect.unit (s := S1x2x512x768) ![0, 0, 0, 0] S1x1x512x768.size inb_S1x2x512x768_S1x1x512x768_0_0_0_0
abbrev r0_4 : Rect S1x2x512x768 := Rect.unit (s := S1x2x512x768) ![0, 1, 0, 0] S1x1x512x768.size inb_S1x2x512x768_S1x1x512x768_0_1_0_0

def k0_pay17 (x0 : Vec F S1x512x768 .f32) (x1 : Vec F S1x512x768 .f32) (x2 : Vec F S768x768 .f32) (x3 : Vec F S1x768 .f32) (x4 : Vec F S768x768 .f32) (x5 : Vec F S1x768 .f32) : FVec F S512x768 .bf16 :=
  k0_pay11 (View.ld x0 r0_0) (View.ld x2 r0_1) (View.ld x3 r0_2)
def k0_pay18 (x0 : Vec F S1x512x768 .f32) (x1 : Vec F S1x512x768 .f32) (x2 : Vec F S768x768 .f32) (x3 : Vec F S1x768 .f32) (x4 : Vec F S768x768 .f32) (x5 : Vec F S1x768 .f32) : FVec F S512x768 .bf16 :=
  k0_pay14 (View.ld x1 r0_0)

def out0_6 (x0 : Vec F S1x512x768 .f32) (x1 : Vec F S1x512x768 .f32) (x2 : Vec F S768x768 .f32) (x3 : Vec F S1x768 .f32) (x4 : Vec F S768x768 .f32) (x5 : Vec F S1x768 .f32) : Vec F S1x2x512x768 .bf16 :=
  View.canon [⟨r0_4, k0_pay16 (View.ld x0 r0_0) (View.ld x2 r0_1) (View.ld x3 r0_2)⟩,
    ⟨r0_3, k0_pay15 (View.ld x0 r0_0) (View.ld x2 r0_1) (View.ld x3 r0_2)⟩]

theorem cover0_6 (p0 : Vec F S1x1x512x768 .bf16) (p1 : Vec F S1x1x512x768 .bf16) (y : S1x2x512x768.Idx) :
    ∃ pc ∈ ([⟨r0_4, p0⟩, ⟨r0_3, p1⟩] : List (View.Piece (Elt F) S1x2x512x768 .bf16)), y ∈ pc.1.set :=
  View.cover_of_tiled [⟨r0_4, p0⟩, ⟨r0_3, p1⟩] S1x1x512x768.size (by rfl) y

def out0_7 (x0 : Vec F S1x512x768 .f32) (x1 : Vec F S1x512x768 .f32) (x2 : Vec F S768x768 .f32) (x3 : Vec F S1x768 .f32) (x4 : Vec F S768x768 .f32) (x5 : Vec F S1x768 .f32) : Vec F S1x2x512x768 .bf16 :=
  View.canon [⟨r0_4, k0_pay2 (k0_pay17 x0 x1 x2 x3 x4 x5)⟩,
    ⟨r0_3, k0_pay1 (k0_pay17 x0 x1 x2 x3 x4 x5)⟩]

theorem cover0_7 (p0 : Vec F S1x1x512x768 .bf16) (p1 : Vec F S1x1x512x768 .bf16) (y : S1x2x512x768.Idx) :
    ∃ pc ∈ ([⟨r0_4, p0⟩, ⟨r0_3, p1⟩] : List (View.Piece (Elt F) S1x2x512x768 .bf16)), y ∈ pc.1.set :=
  View.cover_of_tiled [⟨r0_4, p0⟩, ⟨r0_3, p1⟩] S1x1x512x768.size (by rfl) y

def out0_8 (x0 : Vec F S1x512x768 .f32) (x1 : Vec F S1x512x768 .f32) (x2 : Vec F S768x768 .f32) (x3 : Vec F S1x768 .f32) (x4 : Vec F S768x768 .f32) (x5 : Vec F S1x768 .f32) : Vec F S1x512x768 .bf16 :=
  View.canon [⟨r0_0, k0_pay3 (k0_pay12 (View.ld x1 r0_0) (View.ld x4 r0_1) (View.ld x5 r0_2))⟩]

theorem cover0_8 (p0 : Vec F S1x512x768 .bf16) (y : S1x512x768.Idx) :
    ∃ pc ∈ ([⟨r0_0, p0⟩] : List (View.Piece (Elt F) S1x512x768 .bf16)), y ∈ pc.1.set :=
  View.cover_of_tiled [⟨r0_0, p0⟩] S1x512x768.size (by rfl) y

def out0_9 (x0 : Vec F S1x512x768 .f32) (x1 : Vec F S1x512x768 .f32) (x2 : Vec F S768x768 .f32) (x3 : Vec F S1x768 .f32) (x4 : Vec F S768x768 .f32) (x5 : Vec F S1x768 .f32) : Vec F S1x512x768 .bf16 :=
  View.canon [⟨r0_0, k0_pay4 (k0_pay13 (View.ld x1 r0_0) (View.ld x4 r0_1) (View.ld x5 r0_2))⟩]

theorem cover0_9 (p0 : Vec F S1x512x768 .bf16) (y : S1x512x768.Idx) :
    ∃ pc ∈ ([⟨r0_0, p0⟩] : List (View.Piece (Elt F) S1x512x768 .bf16)), y ∈ pc.1.set :=
  View.cover_of_tiled [⟨r0_0, p0⟩] S1x512x768.size (by rfl) y

def out0_10 (x0 : Vec F S1x512x768 .f32) (x1 : Vec F S1x512x768 .f32) (x2 : Vec F S768x768 .f32) (x3 : Vec F S1x768 .f32) (x4 : Vec F S768x768 .f32) (x5 : Vec F S1x768 .f32) : Vec F S1x2x512x768 .bf16 :=
  View.canon [⟨r0_4, k0_pay6 (k0_pay18 x0 x1 x2 x3 x4 x5)⟩,
    ⟨r0_3, k0_pay5 (k0_pay18 x0 x1 x2 x3 x4 x5)⟩]

theorem cover0_10 (p0 : Vec F S1x1x512x768 .bf16) (p1 : Vec F S1x1x512x768 .bf16) (y : S1x2x512x768.Idx) :
    ∃ pc ∈ ([⟨r0_4, p0⟩, ⟨r0_3, p1⟩] : List (View.Piece (Elt F) S1x2x512x768 .bf16)), y ∈ pc.1.set :=
  View.cover_of_tiled [⟨r0_4, p0⟩, ⟨r0_3, p1⟩] S1x1x512x768.size (by rfl) y

set_option maxHeartbeats 1000000 in
/-- The body on whole buffers: the inputs stay, each output becomes `out0_W` of the inputs. -/
theorem sound_kernel0 (c : Dev nD) (E : Set ℕ) (i : grid0.Coords) (arg2 : Memref sig .tc .vmem S1x512x768 .f32) (harg2 : arg2.IsWhole) (arg3 : Memref sig .tc .vmem S1x512x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S1x2x512x768 .bf16) (harg8 : arg8.IsWhole) (arg9 : Memref sig .tc .vmem S1x2x512x768 .bf16) (harg9 : arg9.IsWhole) (arg10 : Memref sig .tc .vmem S1x512x768 .bf16) (harg10 : arg10.IsWhole) (arg11 : Memref sig .tc .vmem S1x512x768 .bf16) (harg11 : arg11.IsWhole) (arg12 : Memref sig .tc .vmem S1x2x512x768 .bf16) (harg12 : arg12.IsWhole)
    (x0 : Vec F S1x512x768 .f32) (x1 : Vec F S1x512x768 .f32) (x2 : Vec F S768x768 .f32) (x3 : Vec F S1x768 .f32) (x4 : Vec F S768x768 .f32) (x5 : Vec F S1x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5) ∗ owns (c : Thread nD τ) arg9 fullShare (out0_7 x0 x1 x2 x3 x4 x5) ∗ owns (c : Thread nD τ) arg10 fullShare (out0_8 x0 x1 x2 x3 x4 x5) ∗ owns (c : Thread nD τ) arg11 fullShare (out0_9 x0 x1 x2 x3 x4 x5) ∗ owns (c : Thread nD τ) arg12 fullShare (out0_10 x0 x1 x2 x3 x4 x5)) -∗ K ⟨⟩))
      ⊢ wp frame (wpE (defs₀ (F := F)) Variants.none c none) E (cc0__proj_body i arg2 harg2 arg3 harg3 arg4 harg4 arg5 harg5 arg6 harg6 arg7 harg7 arg8 harg8 arg9 harg9 arg10 harg10 arg11 harg11 arg12 harg12) K := by
  simp only [cc0__proj_body_eq_skeleton]; unfold cc0__proj_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _ _)).trans ?_
    rfl
  isplitl [H7]
  · iexists _; isplitr
    swap; · iexact H7
    ipureintro
    refine (View.read_writes_eq_canon _ _ _ (cover0_7 _ _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  iexists _; isplitr
  swap; · iexact H10
  ipureintro
  refine (View.read_writes_eq_canon _ _ _ (cover0_10 _ _)).trans ?_
  rfl

/-- The data of the call: inputs stay at their blocks, the outputs are `out0_W` of the blocks. -/
def dat0 (c : Dev nD) : Dat τ (Elt F) Unit ℕ (UR sig nD τ × UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
    | ⟨10, _⟩ => out0_10 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point of the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row0 (t : Fin cfg0.N) :
    defs₀ (F := F) .tc cfg0.body (cfg0.bodyArgs t (cfg0.slots t)) = bodyAt0 t := by
  unfold defs₀; rw [Defs.onTc_tc]

/-- The obligation of the body at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Region1.lean ====
/-
The second call, which accumulates the correlation of a batch over sixteen blocks of rows: the pieces
that its body writes, what the accumulator holds after each point, and the obligation of the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ × UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ × UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The long window 2 lies inside its array at every point: nothing of it is cut off. -/
theorem clip1_2 : ∀ (t : Fin cfg1.N) (a), (cfg1.win 2).clip (cfg1.grid.coords t) a = none := by
  decide +kernel

/-- The contents of the buffer of window 2 at point `t`: its block of the array. -/
def xblk1_2 (c : Dev nD) (t : Fin cfg1.N) : Vec F S1x6400x768 .bf16 :=
  (cfg1.win 2).fill (cfg1.grid.coords t) (fun _ => Classical.choice (Elt.nonempty F _)) (iblk1 V c 2 t)

theorem before1_2_of {c : Dev nD} (dat : Dat τ (Elt F) Unit ℕ (UR sig nD τ × UR sig nD τ) ℕ cfg1 c) (hA : dat.A 2 = V c (Pipeline.arrRef spec1 2))
    (hafter : ∀ t, dat.after 2 t = xblk1_2 V c t) (t : Fin cfg1.N) (d) : dat.before 2 t d = xblk1_2 V c t :=
  (dat.before_in_eq_fetched 2 rfl (fun _ => rfl) (fun t t' _ => funext fun a => (clip1_2 t a).trans (clip1_2 t' a).symm)
    (fun t => by rw [hafter]; unfold xblk1_2; rw [Pipeline.Window.cut_fill]; unfold Dat.blockOf iblk1; rw [hA]; try rfl) t d).trans
    (by
      unfold Dat.fetched xblk1_2
      rw [Pipeline.fill_of_clip_none 2 (cfg1.grid.coords t) (clip1_2 t) d (fun _ => Classical.choice (Elt.nonempty F _))]
      unfold Dat.blockOf iblk1; rw [hA]; try rfl)

/-- The long window 3 lies inside its array at every point: nothing of it is cut off. -/
theorem clip1_3 : ∀ (t : Fin cfg1.N) (a), (cfg1.win 3).clip (cfg1.grid.coords t) a = none := by
  decide +kernel

/-- The contents of the buffer of window 3 at point `t`: its block of the array. -/
def xblk1_3 (c : Dev nD) (t : Fin cfg1.N) : Vec F S1x6400x768 .bf16 :=
  (cfg1.win 3).fill (cfg1.grid.coords t) (fun _ => Classical.choice (Elt.nonempty F _)) (iblk1 V c 3 t)

theorem before1_3_of {c : Dev nD} (dat : Dat τ (Elt F) Unit ℕ (UR sig nD τ × UR sig nD τ) ℕ cfg1 c) (hA : dat.A 3 = V c (Pipeline.arrRef spec1 3))
    (hafter : ∀ t, dat.after 3 t = xblk1_3 V c t) (t : Fin cfg1.N) (d) : dat.before 3 t d = xblk1_3 V c t :=
  (dat.before_in_eq_fetched 3 rfl (fun _ => rfl) (fun t t' _ => funext fun a => (clip1_3 t a).trans (clip1_3 t' a).symm)
    (fun t => by rw [hafter]; unfold xblk1_3; rw [Pipeline.Window.cut_fill]; unfold Dat.blockOf iblk1; rw [hA]; try rfl) t d).trans
    (by
      unfold Dat.fetched xblk1_3
      rw [Pipeline.fill_of_clip_none 3 (cfg1.grid.coords t) (clip1_3 t) d (fun _ => Classical.choice (Elt.nonempty F _))]
      unfold Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

abbrev VO1_4 : View sig .tc .vmem S1x1x4096 .f32 := (Memref.whole cc1_stg4_0 : Memref sig .tc .vmem S1x1x4096 .f32).view
abbrev ms1_0 (t : Fin cfg1.N) : Memref sig .tc .vmem S1x256x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x6400x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x6400x768 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x4096 .f32 := win1_4.stage (cfg1.slots t 4)
abbrev hs1_4 (t : Fin cfg1.N) : (ms1_4 t).IsWhole := hstage1_4 ((cfg1.slots t 4).cast nbuf1_4)

set_option maxHeartbeats 1000000 in
noncomputable def kernelRun1_A (c : Dev nD) (i : grid1.Coords) (arg2 : Memref sig .tc .vmem S1x256x768 .bf16) (harg2 : arg2.IsWhole) (arg3 : Memref sig .tc .vmem S1x256x768 .bf16) (harg3 : arg3.IsWhole) (arg4 : Memref sig .tc .vmem S1x6400x768 .bf16) (harg4 : arg4.IsWhole) (arg5 : Memref sig .tc .vmem S1x6400x768 .bf16) (harg5 : arg5.IsWhole) (arg6 : Memref sig .tc .vmem S1x1x4096 .f32) (harg6 : arg6.IsWhole) (hc0 : cond1_0 i)
    (x0 : Vec F S1x256x768 .bf16) (x1 : Vec F S1x256x768 .bf16) (x2 : Vec F S1x6400x768 .bf16) (x3 : Vec F S1x6400x768 .bf16) :
    { L4 : List (View.Piece (Elt F) S1x1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__corr_body i arg2 harg2 arg3 harg3 arg4 harg4 arg5 harg5 arg6 harg6) K } := by
  refine ⟨?_, fun E K => ?run⟩
  case run =>
    simp only [cc1__corr_body_eq_skeleton]; unfold cc1__corr_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover1_A_4 (c : Dev nD) (i : grid1.Coords) (arg2 : Memref sig .tc .vmem S1x256x768 .bf16) (harg2 : arg2.IsWhole) (arg3 : Memref sig .tc .vmem S1x256x768 .bf16) (harg3 : arg3.IsWhole) (arg4 : Memref sig .tc .vmem S1x6400x768 .bf16) (harg4 : arg4.IsWhole) (arg5 : Memref sig .tc .vmem S1x6400x768 .bf16) (harg5 : arg5.IsWhole) (arg6 : Memref sig .tc .vmem S1x1x4096 .f32) (harg6 : arg6.IsWhole) (hc0 : cond1_0 i)
    (x0 : Vec F S1x256x768 .bf16) (x1 : Vec F S1x256x768 .bf16) (x2 : Vec F S1x6400x768 .bf16) (x3 : Vec F S1x6400x768 .bf16) (y : S1x1x4096.Idx) :
    ∃ pc ∈ (kernelRun1_A c i arg2 harg2 arg3 harg3 arg4 harg4 arg5 harg5 arg6 harg6 hc0 x0 x1 x2 x3).1, y ∈ pc.1.set :=
  View.cover_of_tiledBy (kernelRun1_A c i arg2 harg2 arg3 harg3 arg4 harg4 arg5 harg5 arg6 harg6 hc0 x0 x1 x2 x3).1 ![1, 1, 2048] (by sl_kernel_rfl) y

def out1_A_4 (c : Dev nD) (i : grid1.Coords) (arg2 : Memref sig .tc .vmem S1x256x768 .bf16) (harg2 : arg2.IsWhole) (arg3 : Memref sig .tc .vmem S1x256x768 .bf16) (harg3 : arg3.IsWhole) (arg4 : Memref sig .tc .vmem S1x6400x768 .bf16) (harg4 : arg4.IsWhole) (arg5 : Memref sig .tc .vmem S1x6400x768 .bf16) (harg5 : arg5.IsWhole) (arg6 : Memref sig .tc .vmem S1x1x4096 .f32) (harg6 : arg6.IsWhole) (hc0 : cond1_0 i)
    (x0 : Vec F S1x256x768 .bf16) (x1 : Vec F S1x256x768 .bf16) (x2 : Vec F S1x6400x768 .bf16) (x3 : Vec F S1x6400x768 .bf16) : Vec F S1x1x4096 .f32 :=
  VO1_4.read (Elt F) (VO1_4.writes (Elt F) VO1_4.junk (kernelRun1_A c i arg2 harg2 arg3 harg3 arg4 harg4 arg5 harg5 arg6 harg6 hc0 x0 x1 x2 x3).1)

set_option maxHeartbeats 1000000 in
noncomputable def kernelRun1_B (c : Dev nD) (i : grid1.Coords) (arg2 : Memref sig .tc .vmem S1x256x768 .bf16) (harg2 : arg2.IsWhole) (arg3 : Memref sig .tc .vmem S1x256x768 .bf16) (harg3 : arg3.IsWhole) (arg4 : Memref sig .tc .vmem S1x6400x768 .bf16) (harg4 : arg4.IsWhole) (arg5 : Memref sig .tc .vmem S1x6400x768 .bf16) (harg5 : arg5.IsWhole) (arg6 : Memref sig .tc .vmem S1x1x4096 .f32) (harg6 : arg6.IsWhole) (hc0 : ¬cond1_0 i)
    (x0 : Vec F S1x256x768 .bf16) (x1 : Vec F S1x256x768 .bf16) (x2 : Vec F S1x6400x768 .bf16) (x3 : Vec F S1x6400x768 .bf16) (xo4 : Vec F S1x1x4096 .f32) :
    { L4 : List (View.Piece (Elt F) S1x1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__corr_body i arg2 harg2 arg3 harg3 arg4 harg4 arg5 harg5 arg6 harg6) K } := by
  refine ⟨?_, fun E K => ?run⟩
  case run =>
    simp only [cc1__corr_body_eq_skeleton]; unfold cc1__corr_body_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover1_B_4 (c : Dev nD) (i : grid1.Coords) (arg2 : Memref sig .tc .vmem S1x256x768 .bf16) (harg2 : arg2.IsWhole) (arg3 : Memref sig .tc .vmem S1x256x768 .bf16) (harg3 : arg3.IsWhole) (arg4 : Memref sig .tc .vmem S1x6400x768 .bf16) (harg4 : arg4.IsWhole) (arg5 : Memref sig .tc .vmem S1x6400x768 .bf16) (harg5 : arg5.IsWhole) (arg6 : Memref sig .tc .vmem S1x1x4096 .f32) (harg6 : arg6.IsWhole) (hc0 : ¬cond1_0 i)
    (x0 : Vec F S1x256x768 .bf16) (x1 : Vec F S1x256x768 .bf16) (x2 : Vec F S1x6400x768 .bf16) (x3 : Vec F S1x6400x768 .bf16) (xo4 : Vec F S1x1x4096 .f32) (y : S1x1x4096.Idx) :
    ∃ pc ∈ (kernelRun1_B c i arg2 harg2 arg3 harg3 arg4 harg4 arg5 harg5 arg6 harg6 hc0 x0 x1 x2 x3 xo4).1, y ∈ pc.1.set :=
  View.cover_of_tiledL (kernelRun1_B c i arg2 harg2 arg3 harg3 arg4 harg4 arg5 harg5 arg6 harg6 hc0 x0 x1 x2 x3 xo4).1 S1x1x2048.size (by sl_kernel_rfl) y

def out1_B_4 (c : Dev nD) (i : grid1.Coords) (arg2 : Memref sig .tc .vmem S1x256x768 .bf16) (harg2 : arg2.IsWhole) (arg3 : Memref sig .tc .vmem S1x256x768 .bf16) (harg3 : arg3.IsWhole) (arg4 : Memref sig .tc .vmem S1x6400x768 .bf16) (harg4 : arg4.IsWhole) (arg5 : Memref sig .tc .vmem S1x6400x768 .bf16) (harg5 : arg5.IsWhole) (arg6 : Memref sig .tc .vmem S1x1x4096 .f32) (harg6 : arg6.IsWhole) (hc0 : ¬cond1_0 i)
    (x0 : Vec F S1x256x768 .bf16) (x1 : Vec F S1x256x768 .bf16) (x2 : Vec F S1x6400x768 .bf16) (x3 : Vec F S1x6400x768 .bf16) (xo4 : Vec F S1x1x4096 .f32) : Vec F S1x1x4096 .f32 :=
  VO1_4.read (Elt F) (VO1_4.writes (Elt F) VO1_4.junk (kernelRun1_B c i arg2 harg2 arg3 harg3 arg4 harg4 arg5 harg5 arg6 harg6 hc0 x0 x1 x2 x3 xo4).1)

def outsAt1 (c : Dev nD) : (n : ℕ) → n < cfg1.N → Vec F S1x1x4096 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (xblk1_2 V c ⟨0, hn⟩) (xblk1_3 V c ⟨0, hn⟩)
  | n + 1, hn =>
    if h0 : (n + 1) % 16 = 0 then
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (xblk1_2 V c ⟨n + 1, hn⟩) (xblk1_3 V c ⟨n + 1, hn⟩)
    else
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (xblk1_2 V c ⟨n + 1, hn⟩) (xblk1_3 V c ⟨n + 1, hn⟩) (outsAt1 c n (Nat.lt_of_succ_lt hn))

theorem outsAt1_A (c : Dev nD) (t : Fin cfg1.N) (h0 : t.val % 16 = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (xblk1_2 V c t) (xblk1_3 V c t) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (xblk1_2 V c t) (xblk1_3 V c t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ × UR sig nD τ) ℕ cfg1 c where
  A w := V c (Pipeline.arrRef spec1 w)
  after w t := match w with
    | ⟨0, _⟩ => iblk1 V c 0 t
    | ⟨1, _⟩ => iblk1 V c 1 t
    | ⟨2, _⟩ => xblk1_2 V c t
    | ⟨3, _⟩ => xblk1_3 V c t
    | ⟨4, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = xblk1_2 V c t := by dsimp only [dat1]
theorem after1_3 (c : Dev nD) (t : Fin cfg1.N) : (dat1 V c).after 3 t = xblk1_3 V c t := by dsimp only [dat1]
theorem after1_4 (c : Dev nD) (t : Fin cfg1.N) : (dat1 V c).after 4 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = xblk1_2 V c t :=
  before1_2_of V (dat1 V c) (A_eq1 V c 2) (after1_2 V c) t d
theorem before1_3 (c : Dev nD) (t : Fin cfg1.N) (d) : (dat1 V c).before 3 t d = xblk1_3 V c t :=
  before1_3_of V (dat1 V c) (A_eq1 V c 3) (after1_3 V c) t d
theorem before1_4_B (c : Dev nD) (t : Fin cfg1.N) (h0 : ¬t.val % 16 = 0) (d) :
    (dat1 V c).before 4 t d = (outsAt1 V c (t.val - 1) (Nat.lt_of_le_of_lt (Nat.sub_le _ _) t.isLt)) := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 32 := lt_of_lt_of_eq t.isLt (show cfg1.N = 32 from N_1)
  by_cases h0 : t.val % 16 = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (xblk1_2 V c t) (xblk1_3 V c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (xblk1_2 V c t) (xblk1_3 V c t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Region2.lean ====
/-
The third call, which takes the five largest correlations of the batch mean and their softmax. Of the eight
words of its index output it stores five, so that of this block a relation is claimed: the five words lie over
contents that are not known.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ × UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev VO2_1 : View sig .tc .smem S1x8 .i32 := (Memref.whole cc2_stg1_0 : Memref sig .tc .smem S1x8 .i32).view
abbrev VO2_2 : View sig .tc .vmem S2x1x128 .f32 := (Memref.whole cc2_stg2_0 : Memref sig .tc .vmem S2x1x128 .f32).view
abbrev ms2_0 (t : Fin cfg2.N) : Memref sig .tc .vmem S2x1x4096 .f32 := win2_0.stage (cfg2.slots t 0)
abbrev hs2_0 (t : Fin cfg2.N) : (ms2_0 t).IsWhole := hstage2_0 0
abbrev ms2_1 (t : Fin cfg2.N) : Memref sig .tc .smem S1x8 .i32 := win2_1.stage (cfg2.slots t 1)
abbrev hs2_1 (t : Fin cfg2.N) : (ms2_1 t).IsWhole := hstage2_1 0
abbrev ms2_2 (t : Fin cfg2.N) : Memref sig .tc .vmem S2x1x128 .f32 := win2_2.stage (cfg2.slots t 2)
abbrev hs2_2 (t : Fin cfg2.N) : (ms2_2 t).IsWhole := hstage2_2 0

set_option maxHeartbeats 1000000 in
/-- The run of the body: the pieces that it writes, and that it ends with them written. -/
noncomputable def kernelRun2_A (c : Dev nD) (arg0 : Memref sig .tc .vmem S2x1x4096 .f32) (harg0 : arg0.IsWhole) (arg1 : Memref sig .tc .smem S1x8 .i32) (harg1 : arg1.IsWhole) (arg2 : Memref sig .tc .vmem S2x1x128 .f32) (harg2 : arg2.IsWhole)
    (x0 : Vec F S2x1x4096 .f32) :
    Σ' (L1 : List (View.Piece (Elt F) S1x8 .i32)), { L2 : List (View.Piece (Elt F) S2x1x128 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2)) -∗ K ⟨⟩))
          ⊢ wp frame (wpE (defs₀ (F := F)) Variants.none c none) E (cc2__stats_body arg0 harg0 arg1 harg1 arg2 harg2) K } := by
  refine ⟨?_, ?_, fun E K => ?run⟩
  case run =>
    simp only [cc2__stats_body_eq_skeleton]; unfold cc2__stats_body_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%d1, %f1, -, H1⟩, ⟨%d2, %f2, -, H2⟩, Hk⟩
    obtain rfl := harg0.eq_unread hf0
    sl_exec
    sl_step
    iapply Hk
    isplitl [H0]
    · iexists _; isplitr; · ipureintro; exact harg0.read_unread _
      iexact H0
    isplitl [H1]; · iexists _; iexact H1
    iexists _; iexact H2

theorem cover2_A_2 (c : Dev nD) (arg0 : Memref sig .tc .vmem S2x1x4096 .f32) (harg0 : arg0.IsWhole) (arg1 : Memref sig .tc .smem S1x8 .i32) (harg1 : arg1.IsWhole) (arg2 : Memref sig .tc .vmem S2x1x128 .f32) (harg2 : arg2.IsWhole)
    (x0 : Vec F S2x1x4096 .f32) (y : S2x1x128.Idx) :
    ∃ pc ∈ (kernelRun2_A c arg0 harg0 arg1 harg1 arg2 harg2 x0).2.1, y ∈ pc.1.set :=
  View.cover_of_tiledL (kernelRun2_A c arg0 harg0 arg1 harg1 arg2 harg2 x0).2.1 S2x1x128.size (by sl_kernel_rfl) y

def out2_A_2 (c : Dev nD) (arg0 : Memref sig .tc .vmem S2x1x4096 .f32) (harg0 : arg0.IsWhole) (arg1 : Memref sig .tc .smem S1x8 .i32) (harg1 : arg1.IsWhole) (arg2 : Memref sig .tc .vmem S2x1x128 .f32) (harg2 : arg2.IsWhole)
    (x0 : Vec F S2x1x4096 .f32) : Vec F S2x1x128 .f32 :=
  VO2_2.read (Elt F) (VO2_2.writes (Elt F) VO2_2.junk (kernelRun2_A c arg0 harg0 arg1 harg1 arg2 harg2 x0).2.1)

/-- What the call leaves in its second output block. -/
def outAt2_2 (c : Dev nD) (t : Fin cfg2.N) : Vec F S2x1x128 .f32 :=
  out2_A_2 c (ms2_0 t) (hs2_0 t) (ms2_1 t) (hs2_1 t) (ms2_2 t) (hs2_2 t) (iblk2 V c 0 t)

/-- The words that the call stores in its first output block, which holds eight and of which it stores five. -/
def words2 (c : Dev nD) (t : Fin cfg2.N) : List (View.Piece (Elt F) S1x8 .i32) :=
  (kernelRun2_A c (ms2_0 t) (hs2_0 t) (ms2_1 t) (hs2_1 t) (ms2_2 t) (hs2_2 t) (iblk2 V c 0 t)).1

/-- The data of the call, at the contents `o` of the first output block. -/
def dat2 (o : Vec F S1x8 .i32) (c : Dev nD) : Dat τ (Elt F) Unit ℕ (UR sig nD τ × UR sig nD τ) ℕ cfg2 c where
  A w := V c (Pipeline.arrRef spec2 w)
  after w t := match w with
    | ⟨0, _⟩ => iblk2 V c 0 t
    | ⟨1, _⟩ => o
    | ⟨2, _⟩ => outAt2_2 V c t
  Φ _ := Pipeline.ΦA spec2 c
  q _ := fullShare
  owed _ := 0

theorem A_eq2 (o : Vec F S1x8 .i32) (c : Dev nD) (w : Fin cfg2.W) : (dat2 V o c).A w = V c (Pipeline.arrRef spec2 w) := by
  dsimp only [dat2]

theorem after2_0 (o : Vec F S1x8 .i32) (c : Dev nD) (t : Fin cfg2.N) : (dat2 V o c).after 0 t = iblk2 V c 0 t := by dsimp only [dat2]
theorem after2_2 (o : Vec F S1x8 .i32) (c : Dev nD) (t : Fin cfg2.N) : (dat2 V o c).after 2 t = outAt2_2 V c t := by dsimp only [dat2]

theorem before2_0 (o : Vec F S1x8 .i32) (c : Dev nD) (t : Fin cfg2.N) (d) : (dat2 V o c).before 0 t d = iblk2 V c 0 t :=
  before2_0_of V (dat2 V o c) (A_eq2 V o c 0) (after2_0 V o c) t d

/-- The window of which a relation alone is claimed: the first output. -/
def fgt2 : Fin cfg2.W → Bool := fun w => match w with | ⟨0, _⟩ => false | ⟨1, _⟩ => true | ⟨2, _⟩ => false

/-- The relation: the words stored lie over contents that are not known. -/
def Rl2 (c : Dev nD) : (w : Fin cfg2.W) → Fin cfg2.N → ((cfg2.win w).block.Idx → Elt F (cfg2.win w).elt) → Prop
  | ⟨0, _⟩, _, _ => True
  | ⟨1, _⟩, t, X => ∃ f, (ms2_1 t).view.read (Elt F) ((ms2_1 t).view.writes (Elt F) f (words2 V c t)) = X
  | ⟨2, _⟩, _, _ => True

def bodyPre2 (o : Vec F S1x8 .i32) (c : Dev nD) (t : Fin cfg2.N) : sProp 𝕄 :=
  iprop((dat2 V o c).Φ t.castSucc ∗ (dat2 V o c).owesAt () t.castSucc
    ∗ (∃ d, owns (c : Thread nD τ) (ms2_0 t) fullShare ((dat2 V o c).before 0 t d))
    ∗ (∃ Y, ⌜((dat2 V o c).toRRel fgt2 (Rl2 V c)).Finds 1 t Y⌝ ∗ owns (c : Thread nD τ) (ms2_1 t) fullShare Y)
    ∗ (∃ d, owns (c : Thread nD τ) (ms2_2 t) fullShare ((dat2 V o c).before 2 t d)))

def bodyPost2 (o : Vec F S1x8 .i32) (c : Dev nD) (t : Fin cfg2.N) : sProp 𝕄 :=
  iprop((dat2 V o c).Φ t.succ ∗ (dat2 V o c).owesAt () t.succ
    ∗ owns (c : Thread nD τ) (ms2_0 t) fullShare ((dat2 V o c).after 0 t)
    ∗ (∃ X, ⌜Rl2 V c 1 t X⌝ ∗ owns (c : Thread nD τ) (ms2_1 t) fullShare X)
    ∗ owns (c : Thread nD τ) (ms2_2 t) fullShare ((dat2 V o c).after 2 t))

/-- The body at the point of the call. -/
theorem sound_body2 (o : Vec F S1x8 .i32) (c : Dev nD) (t : Fin cfg2.N) :
    bodyPre2 V o c t ⊢ wp frame (wpE (defs₀ (F := F)) Variants.none c none) Set.univ (bodyAt2 t) (fun _ => bodyPost2 V o c t) := by
  unfold bodyPre2 bodyPost2 bodyAt2
  simp only [before2_0]
  rw [show (dat2 V o c).Φ t.succ = (dat2 V o c).Φ t.castSucc from rfl,
    show (dat2 V o c).owesAt () t.succ = (dat2 V o c).owesAt () t.castSucc from rfl,
    after2_0, after2_2]
  unfold outAt2_2 out2_A_2; (try dsimp only)
  iintro ⟨HΦ, Ho, ⟨%d0, H0⟩, ⟨%d1, -, H1⟩, ⟨%d2, H2⟩⟩
  iapply ((kernelRun2_A c _ _ _ _ _ _ (iblk2 V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  isplitl [H1]
  · iexists ((ms2_1 t).view.read (Elt F) ((ms2_1 t).view.writes (Elt F) e1 (words2 V c t)))
    isplitr
    · ipureintro; exact ⟨e1, rfl⟩
    unfold owns; iexists _; isplitr
    swap; · iexact H1
    ipureintro; rfl
  unfold owns; iexists _; isplitr
  swap; · iexact H2
  ipureintro; exact View.read_writes_of_cover _ _ _ _ _ (cover2_A_2 c _ _ _ _ _ _ _)

theorem defs₀_row2 (t : Fin cfg2.N) :
    defs₀ (F := F) .tc cfg2.body (cfg2.bodyArgs t (cfg2.slots t)) = bodyAt2 t := by
  unfold defs₀; rw [Defs.onTc_tc]

/-- The obligation of the body. -/
theorem body_obligation2 (o : Vec F S1x8 .i32) (c : Dev nD) :
    Pipeline.BodyObligationRel (dat2 (F := F) V o c) (defs₀ (F := F)) Variants.none () Set.univ fgt2 (Rl2 V c) := fun t => by
  rw [bigSep_W2, bigSep_W2, defs₀_row2]
  exact triple_restated (sound_body2 V o c t) rfl .rfl fun _ => .rfl

end Cert.KernelIdeal.Hand

end
-- ==== Proof.KernelIdeal.Words.lean ====
/-
The delays of the fourth call as words: the row at which the block of a delay starts, and that it lies inside
the buffer for each delay between 0 and 4095.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The first five words, those that are written, lie between 0 and 4095. -/
def InRange (x1 : Vec F S1x8 .i32) : Prop :=
  ∀ y : S1x8.Idx, (y 1).val < 5 → BitVec.toNat (x1 y : BitVec 32) < 4096

/-- Eight times the floor of an eighth of a delay, as the kernel computes it. -/
def eighth (v1 : BitVec 32) : BitVec 32 :=
  let v6 : BitVec 1 := Scalar.cmpi .sgt v1 0#32
  let v7 : BitVec 32 := Scalar.extui v6
  let v8 : BitVec 1 := Scalar.cmpi .slt v1 0#32
  let v9 : BitVec 32 := Scalar.extui v8
  let v10 : BitVec 32 := Scalar.subi v7 v9
  let v11 : BitVec 1 := Scalar.cmpi .sgt 8#32 0#32
  let v12 : BitVec 32 := Scalar.extui v11
  let v13 : BitVec 1 := Scalar.cmpi .slt 8#32 0#32
  let v14 : BitVec 32 := Scalar.extui v13
  let v15 : BitVec 32 := Scalar.subi v12 v14
  let v16 : BitVec 1 := Scalar.cmpi .ne v10 v15
  let v17 : BitVec 32 := Scalar.remsi v1 8#32
  let v18 : BitVec 1 := Scalar.cmpi .ne v17 0#32
  let v19 : BitVec 1 := Scalar.andi v16 v18
  let v5 : BitVec 32 := Scalar.divsi v1 8#32
  let v20 : BitVec 32 := Scalar.subi v5 1#32
  let v21 : BitVec 32 := Scalar.select v19 v20 v5
  Scalar.muli v21 8#32

theorem eighth_fin : ∀ v : Fin 4096, eighth (BitVec.ofNat 32 v.val) = BitVec.ofNat 32 (8 * (v.val / 8)) := by
  decide +kernel

theorem eighth_eq (v : BitVec 32) (h : v.toNat < 4096) : eighth v = BitVec.ofNat 32 (8 * (v.toNat / 8)) := by
  have e : BitVec.ofNat 32 v.toNat = v := by simp
  have := eighth_fin ⟨v.toNat, h⟩
  dsimp only at this
  rwa [e] at this

/-- The row at which the block of a delay starts. -/
theorem row_toNat (i : grid3.Coords) (v : BitVec 32) (h : v.toNat < 4096) :
    (Scalar.addi (Scalar.muli (BitVec.ofNat 32 (i 1).val) 256#32) (eighth v)).toNat = 256 * (i 1).val + 8 * (v.toNat / 8) := by
  have hi : (i 1).val < 16 := (i 1).isLt
  rw [eighth_eq v h]
  show (BitVec.ofNat 32 (i 1).val * 256#32 + BitVec.ofNat 32 (8 * (v.toNat / 8))).toNat = _
  simp only [BitVec.toNat_add, BitVec.toNat_mul, BitVec.toNat_ofNat]
  omega

theorem k3_off1_eq (i : grid3.Coords) (v : BitVec 32) (h : v.toNat < 4096) :
    k3_off1 i v = ![0, 256 * (i 1).val + 8 * (v.toNat / 8), 0] := by
  rw [← row_toNat i v h]; rfl

theorem k3_off2_eq (i : grid3.Coords) (v : BitVec 32) (h : v.toNat < 4096) :
    k3_off2 i v = ![0, 256 * (i 1).val + 8 * (v.toNat / 8), 0] := by
  rw [← row_toNat i v h]; rfl

theorem inb_row (i : grid3.Coords) (n : ℕ) (h : n < 4096) :
    ∀ a, (![0, 256 * (i 1).val + 8 * (n / 8), 0] : Fin 3 → ℕ) a + S1x264x768.size a ≤ S1x8192x768.size a := by
  have hi : (i 1).val < 16 := (i 1).isLt
  intro a
  fin_cases a
  · show 0 + 1 ≤ 1; omega
  · show 256 * (i 1).val + 8 * (n / 8) + 264 ≤ 8192; omega
  · show 0 + 768 ≤ 768; omega

theorem chk1_of (i : grid3.Coords) (v : BitVec 32) (h : v.toNat < 4096) : k3_chk1 i v := by
  refine ⟨?_, ?_⟩
  · have e : (k3_mult1 i v).toNat = 256 * (i 1).val + 8 * (v.toNat / 8) := row_toNat i v h
    rw [e]; omega
  · rw [k3_off1_eq i v h]; exact inb_row i _ h

theorem chk2_of (i : grid3.Coords) (v : BitVec 32) (h : v.toNat < 4096) : k3_chk2 i v := by
  refine ⟨?_, ?_⟩
  · have e : (k3_mult2 i v).toNat = 256 * (i 1).val + 8 * (v.toNat / 8) := row_toNat i v h
    rw [e]; omega
  · rw [k3_off2_eq i v h]; exact inb_row i _ h

/-- A word loaded from one of the first five lanes. -/
theorem word_lt {x1 : Vec F S1x8 .i32} (hi : InRange x1) (m : Memref sig .tc .smem S1x8 .i32) (hm : m.IsWhole)
    (B : LoadRect S1x8) (x : B.shape.Idx) (h : (B.idx x 1).val < 5) :
    BitVec.toNat (View.readAt (Elt F) m.view B (hm.unread x1) x : BitVec 32) < 4096 := by
  rw [hm.readAt_unread]; exact hi _ h

end Cert.KernelIdeal.Hand

end
-- ==== Proof.KernelIdeal.Region3.lean ====
/-
The fourth call, which rolls the values of a batch by the chosen delays and projects them. The two delays are
read from memory as words; that they lie between 0 and 4095 keeps every load inside its block.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Words

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ × UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ × UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ × UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ × UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ × UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev VO3_5 : View sig .tc .vmem S1x256x768 .f32 := (Memref.whole cc3_stg5_0 : Memref sig .tc .vmem S1x256x768 .f32).view
abbrev VO3_6 : View sig .tc .vmem S1x256x768 .f32 := (Memref.whole cc3_stg6_0 : Memref sig .tc .vmem S1x256x768 .f32).view
abbrev ms3_0 (t : Fin cfg3.N) : Memref sig .tc .vmem S1x8192x768 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .smem S1x8 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S768x768 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x768 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x256x768 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x256x768 .f32 := win3_6.stage (cfg3.slots t 6)
abbrev hs3_6 (t : Fin cfg3.N) : (ms3_6 t).IsWhole := hstage3_6 ((cfg3.slots t 6).cast nbuf3_6)

set_option maxHeartbeats 1000000 in
/-- The run of the body: the pieces that it writes, and that it ends with them written. -/
noncomputable def kernelRun3_A (c : Dev nD) (i : grid3.Coords) (arg2 : Memref sig .tc .vmem S1x8192x768 .bf16) (harg2 : arg2.IsWhole) (arg3 : Memref sig .tc .smem S1x8 .i32) (harg3 : arg3.IsWhole) (arg4 : Memref sig .tc .vmem S1x1x128 .f32) (harg4 : arg4.IsWhole) (arg5 : Memref sig .tc .vmem S768x768 .f32) (harg5 : arg5.IsWhole) (arg6 : Memref sig .tc .vmem S1x768 .f32) (harg6 : arg6.IsWhole) (arg7 : Memref sig .tc .vmem S1x256x768 .f32) (harg7 : arg7.IsWhole) (arg8 : Memref sig .tc .vmem S1x256x768 .f32) (harg8 : arg8.IsWhole)
    (x0 : Vec F S1x8192x768 .bf16) (x1 : Vec F S1x8 .i32) (x2 : Vec F S1x1x128 .f32) (x3 : Vec F S768x768 .f32) (x4 : Vec F S1x768 .f32) (hi : InRange x1) :
    Σ' (L5 : List (View.Piece (Elt F) S1x256x768 .f32)), { L6 : List (View.Piece (Elt F) S1x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc3__roll_body i arg2 harg2 arg3 harg3 arg4 harg4 arg5 harg5 arg6 harg6 arg7 harg7 arg8 harg8) K } := by
  refine ⟨?_, ?_, fun E K => ?run⟩
  case run =>
    simp only [cc3__roll_body_eq_skeleton]; unfold cc3__roll_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact chk1_of _ _ (word_lt hi _ _ _ _ (by decide)) | exact chk2_of _ _ (word_lt hi _ _ _ _ (by decide)))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem cover3_A_5 (c : Dev nD) (i : grid3.Coords) (arg2 : Memref sig .tc .vmem S1x8192x768 .bf16) (harg2 : arg2.IsWhole) (arg3 : Memref sig .tc .smem S1x8 .i32) (harg3 : arg3.IsWhole) (arg4 : Memref sig .tc .vmem S1x1x128 .f32) (harg4 : arg4.IsWhole) (arg5 : Memref sig .tc .vmem S768x768 .f32) (harg5 : arg5.IsWhole) (arg6 : Memref sig .tc .vmem S1x768 .f32) (harg6 : arg6.IsWhole) (arg7 : Memref sig .tc .vmem S1x256x768 .f32) (harg7 : arg7.IsWhole) (arg8 : Memref sig .tc .vmem S1x256x768 .f32) (harg8 : arg8.IsWhole)
    (x0 : Vec F S1x8192x768 .bf16) (x1 : Vec F S1x8 .i32) (x2 : Vec F S1x1x128 .f32) (x3 : Vec F S768x768 .f32) (x4 : Vec F S1x768 .f32) (hi : InRange x1) (y : S1x256x768.Idx) :
    ∃ pc ∈ (kernelRun3_A c i arg2 harg2 arg3 harg3 arg4 harg4 arg5 harg5 arg6 harg6 arg7 harg7 arg8 harg8 x0 x1 x2 x3 x4 hi).1, y ∈ pc.1.set :=
  View.cover_of_tiledL (kernelRun3_A c i arg2 harg2 arg3 harg3 arg4 harg4 arg5 harg5 arg6 harg6 arg7 harg7 arg8 harg8 x0 x1 x2 x3 x4 hi).1 S1x256x768.size (by sl_kernel_rfl) y

def out3_A_5 (c : Dev nD) (i : grid3.Coords) (arg2 : Memref sig .tc .vmem S1x8192x768 .bf16) (harg2 : arg2.IsWhole) (arg3 : Memref sig .tc .smem S1x8 .i32) (harg3 : arg3.IsWhole) (arg4 : Memref sig .tc .vmem S1x1x128 .f32) (harg4 : arg4.IsWhole) (arg5 : Memref sig .tc .vmem S768x768 .f32) (harg5 : arg5.IsWhole) (arg6 : Memref sig .tc .vmem S1x768 .f32) (harg6 : arg6.IsWhole) (arg7 : Memref sig .tc .vmem S1x256x768 .f32) (harg7 : arg7.IsWhole) (arg8 : Memref sig .tc .vmem S1x256x768 .f32) (harg8 : arg8.IsWhole)
    (x0 : Vec F S1x8192x768 .bf16) (x1 : Vec F S1x8 .i32) (x2 : Vec F S1x1x128 .f32) (x3 : Vec F S768x768 .f32) (x4 : Vec F S1x768 .f32) (hi : InRange x1) : Vec F S1x256x768 .f32 :=
  VO3_5.read (Elt F) (VO3_5.writes (Elt F) VO3_5.junk (kernelRun3_A c i arg2 harg2 arg3 harg3 arg4 harg4 arg5 harg5 arg6 harg6 arg7 harg7 arg8 harg8 x0 x1 x2 x3 x4 hi).1)

theorem cover3_A_6 (c : Dev nD) (i : grid3.Coords) (arg2 : Memref sig .tc .vmem S1x8192x768 .bf16) (harg2 : arg2.IsWhole) (arg3 : Memref sig .tc .smem S1x8 .i32) (harg3 : arg3.IsWhole) (arg4 : Memref sig .tc .vmem S1x1x128 .f32) (harg4 : arg4.IsWhole) (arg5 : Memref sig .tc .vmem S768x768 .f32) (harg5 : arg5.IsWhole) (arg6 : Memref sig .tc .vmem S1x768 .f32) (harg6 : arg6.IsWhole) (arg7 : Memref sig .tc .vmem S1x256x768 .f32) (harg7 : arg7.IsWhole) (arg8 : Memref sig .tc .vmem S1x256x768 .f32) (harg8 : arg8.IsWhole)
    (x0 : Vec F S1x8192x768 .bf16) (x1 : Vec F S1x8 .i32) (x2 : Vec F S1x1x128 .f32) (x3 : Vec F S768x768 .f32) (x4 : Vec F S1x768 .f32) (hi : InRange x1) (y : S1x256x768.Idx) :
    ∃ pc ∈ (kernelRun3_A c i arg2 harg2 arg3 harg3 arg4 harg4 arg5 harg5 arg6 harg6 arg7 harg7 arg8 harg8 x0 x1 x2 x3 x4 hi).2.1, y ∈ pc.1.set :=
  View.cover_of_tiledL (kernelRun3_A c i arg2 harg2 arg3 harg3 arg4 harg4 arg5 harg5 arg6 harg6 arg7 harg7 arg8 harg8 x0 x1 x2 x3 x4 hi).2.1 S1x256x768.size (by sl_kernel_rfl) y

def out3_A_6 (c : Dev nD) (i : grid3.Coords) (arg2 : Memref sig .tc .vmem S1x8192x768 .bf16) (harg2 : arg2.IsWhole) (arg3 : Memref sig .tc .smem S1x8 .i32) (harg3 : arg3.IsWhole) (arg4 : Memref sig .tc .vmem S1x1x128 .f32) (harg4 : arg4.IsWhole) (arg5 : Memref sig .tc .vmem S768x768 .f32) (harg5 : arg5.IsWhole) (arg6 : Memref sig .tc .vmem S1x768 .f32) (harg6 : arg6.IsWhole) (arg7 : Memref sig .tc .vmem S1x256x768 .f32) (harg7 : arg7.IsWhole) (arg8 : Memref sig .tc .vmem S1x256x768 .f32) (harg8 : arg8.IsWhole)
    (x0 : Vec F S1x8192x768 .bf16) (x1 : Vec F S1x8 .i32) (x2 : Vec F S1x1x128 .f32) (x3 : Vec F S768x768 .f32) (x4 : Vec F S1x768 .f32) (hi : InRange x1) : Vec F S1x256x768 .f32 :=
  VO3_6.read (Elt F) (VO3_6.writes (Elt F) VO3_6.junk (kernelRun3_A c i arg2 harg2 arg3 harg3 arg4 harg4 arg5 harg5 arg6 harg6 arg7 harg7 arg8 harg8 x0 x1 x2 x3 x4 hi).2.1)

def outsAt3 (hV : ∀ c t, InRange (iblk3 V c 1 t)) (c : Dev nD) (t : Fin cfg3.N) : Vec F S1x256x768 .f32 × Vec F S1x256x768 .f32 :=
  (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (iblk3 V c 0 t) (iblk3 V c 1 t) (iblk3 V c 2 t) (iblk3 V c 3 t) (iblk3 V c 4 t) (hV c t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (iblk3 V c 0 t) (iblk3 V c 1 t) (iblk3 V c 2 t) (iblk3 V c 3 t) (iblk3 V c 4 t) (hV c t))

def dat3 (hV : ∀ c t, InRange (iblk3 V c 1 t)) (c : Dev nD) : Dat τ (Elt F) Unit ℕ (UR sig nD τ × UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V hV c t).1
    | ⟨6, _⟩ => (outsAt3 V hV c t).2
  Φ _ := Pipeline.ΦA spec3 c
  q _ := fullShare
  owed _ := 0

theorem A_eq3 (hV : ∀ c t, InRange (iblk3 V c 1 t)) (c : Dev nD) (w : Fin cfg3.W) : (dat3 V hV c).A w = V c (Pipeline.arrRef spec3 w) := by
  dsimp only [dat3]

theorem after3_0 (hV : ∀ c t, InRange (iblk3 V c 1 t)) (c : Dev nD) (t : Fin cfg3.N) : (dat3 V hV c).after 0 t = iblk3 V c 0 t := by dsimp only [dat3]
theorem after3_1 (hV : ∀ c t, InRange (iblk3 V c 1 t)) (c : Dev nD) (t : Fin cfg3.N) : (dat3 V hV c).after 1 t = iblk3 V c 1 t := by dsimp only [dat3]
theorem after3_2 (hV : ∀ c t, InRange (iblk3 V c 1 t)) (c : Dev nD) (t : Fin cfg3.N) : (dat3 V hV c).after 2 t = iblk3 V c 2 t := by dsimp only [dat3]
theorem after3_3 (hV : ∀ c t, InRange (iblk3 V c 1 t)) (c : Dev nD) (t : Fin cfg3.N) : (dat3 V hV c).after 3 t = iblk3 V c 3 t := by dsimp only [dat3]
theorem after3_4 (hV : ∀ c t, InRange (iblk3 V c 1 t)) (c : Dev nD) (t : Fin cfg3.N) : (dat3 V hV c).after 4 t = iblk3 V c 4 t := by dsimp only [dat3]
theorem after3_5 (hV : ∀ c t, InRange (iblk3 V c 1 t)) (c : Dev nD) (t : Fin cfg3.N) : (dat3 V hV c).after 5 t = (outsAt3 V hV c t).1 := by dsimp only [dat3]
theorem after3_6 (hV : ∀ c t, InRange (iblk3 V c 1 t)) (c : Dev nD) (t : Fin cfg3.N) : (dat3 V hV c).after 6 t = (outsAt3 V hV c t).2 := by dsimp only [dat3]

theorem before3_0 (hV : ∀ c t, InRange (iblk3 V c 1 t)) (c : Dev nD) (t : Fin cfg3.N) (d) : (dat3 V hV c).before 0 t d = iblk3 V c 0 t :=
  before3_0_of V (dat3 V hV c) (A_eq3 V hV c 0) (after3_0 V hV c) t d
theorem before3_1 (hV : ∀ c t, InRange (iblk3 V c 1 t)) (c : Dev nD) (t : Fin cfg3.N) (d) : (dat3 V hV c).before 1 t d = iblk3 V c 1 t :=
  before3_1_of V (dat3 V hV c) (A_eq3 V hV c 1) (after3_1 V hV c) t d
theorem before3_2 (hV : ∀ c t, InRange (iblk3 V c 1 t)) (c : Dev nD) (t : Fin cfg3.N) (d) : (dat3 V hV c).before 2 t d = iblk3 V c 2 t :=
  before3_2_of V (dat3 V hV c) (A_eq3 V hV c 2) (after3_2 V hV c) t d
theorem before3_3 (hV : ∀ c t, InRange (iblk3 V c 1 t)) (c : Dev nD) (t : Fin cfg3.N) (d) : (dat3 V hV c).before 3 t d = iblk3 V c 3 t :=
  before3_3_of V (dat3 V hV c) (A_eq3 V hV c 3) (after3_3 V hV c) t d
theorem before3_4 (hV : ∀ c t, InRange (iblk3 V c 1 t)) (c : Dev nD) (t : Fin cfg3.N) (d) : (dat3 V hV c).before 4 t d = iblk3 V c 4 t :=
  before3_4_of V (dat3 V hV c) (A_eq3 V hV c 4) (after3_4 V hV c) t d

def bodyPre3 (hV : ∀ c t, InRange (iblk3 V c 1 t)) (c : Dev nD) (t : Fin cfg3.N) : sProp 𝕄 :=
  iprop((dat3 V hV c).Φ t.castSucc ∗ (dat3 V hV c).owesAt () t.castSucc
    ∗ (∃ d, owns (c : Thread nD τ) (ms3_0 t) fullShare ((dat3 V hV c).before 0 t d))
    ∗ (∃ d, owns (c : Thread nD τ) (ms3_1 t) fullShare ((dat3 V hV c).before 1 t d))
    ∗ (∃ d, owns (c : Thread nD τ) (ms3_2 t) fullShare ((dat3 V hV c).before 2 t d))
    ∗ (∃ d, owns (c : Thread nD τ) (ms3_3 t) fullShare ((dat3 V hV c).before 3 t d))
    ∗ (∃ d, owns (c : Thread nD τ) (ms3_4 t) fullShare ((dat3 V hV c).before 4 t d))
    ∗ (∃ d, owns (c : Thread nD τ) (ms3_5 t) fullShare ((dat3 V hV c).before 5 t d))
    ∗ (∃ d, owns (c : Thread nD τ) (ms3_6 t) fullShare ((dat3 V hV c).before 6 t d)))

def bodyPost3 (hV : ∀ c t, InRange (iblk3 V c 1 t)) (c : Dev nD) (t : Fin cfg3.N) : sProp 𝕄 :=
  iprop((dat3 V hV c).Φ t.succ ∗ (dat3 V hV c).owesAt () t.succ
    ∗ owns (c : Thread nD τ) (ms3_0 t) fullShare ((dat3 V hV c).after 0 t)
    ∗ owns (c : Thread nD τ) (ms3_1 t) fullShare ((dat3 V hV c).after 1 t)
    ∗ owns (c : Thread nD τ) (ms3_2 t) fullShare ((dat3 V hV c).after 2 t)
    ∗ owns (c : Thread nD τ) (ms3_3 t) fullShare ((dat3 V hV c).after 3 t)
    ∗ owns (c : Thread nD τ) (ms3_4 t) fullShare ((dat3 V hV c).after 4 t)
    ∗ owns (c : Thread nD τ) (ms3_5 t) fullShare ((dat3 V hV c).after 5 t)
    ∗ owns (c : Thread nD τ) (ms3_6 t) fullShare ((dat3 V hV c).after 6 t))

theorem sound_body3 (hV : ∀ c t, InRange (iblk3 V c 1 t)) (c : Dev nD) (t : Fin cfg3.N) :
    bodyPre3 V hV c t ⊢ wp frame (wpE (defs₀ (F := F)) Variants.none c none) Set.univ (bodyAt3 t) (fun _ => bodyPost3 V hV c t) := by
  unfold bodyPre3 bodyPost3 bodyAt3
  simp only [before3_0, before3_1, before3_2, before3_3, before3_4]
  rw [show (dat3 V hV c).Φ t.succ = (dat3 V hV c).Φ t.castSucc from rfl,
    show (dat3 V hV c).owesAt () t.succ = (dat3 V hV c).owesAt () t.castSucc from rfl,
    after3_0, after3_1, after3_2, after3_3, after3_4, after3_5, after3_6]
  unfold outsAt3
  unfold out3_A_5 out3_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun3_A c (grid3.coords t) _ _ _ _ _ _ _ _ _ _ _ _ _ _ (iblk3 V c 0 t) (iblk3 V c 1 t) (iblk3 V c 2 t) (iblk3 V c 3 t) (iblk3 V c 4 t) (hV c t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover3_A_5 c _ _ _ _ _ _ _ _ _ _ _ _ _ _ _ _ _ _ _ _ _)
  unfold owns; iexists _; isplitr
  swap; · iexact H6
  ipureintro; exact View.read_writes_of_cover _ _ _ _ _ (cover3_A_6 c _ _ _ _ _ _ _ _ _ _ _ _ _ _ _ _ _ _ _ _ _)

theorem defs₀_row3 (t : Fin cfg3.N) :
    defs₀ (F := F) .tc cfg3.body (cfg3.bodyArgs t (cfg3.slots t)) = bodyAt3 t := by
  unfold defs₀; rw [Defs.onTc_tc]

theorem body_obligation3 (hV : ∀ c t, InRange (iblk3 V c 1 t)) (c : Dev nD) : BodyObligation (dat3 (F := F) V hV c) (defs₀ (F := F)) Variants.none () Set.univ := fun t => by
  rw [bigSep_W3, bigSep_W3, defs₀_row3]
  exact triple_restated (sound_body3 V hV c t) rfl .rfl fun _ => .rfl

end Cert.KernelIdeal.Hand

end
-- ==== Proof.KernelIdeal.Contents.lean ====
/-
What the buffers hold between the calls, and that the arguments never change.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.KernelIdeal.Region0
public import proofs.«01_k».proof.Proof.KernelIdeal.Region1
public import proofs.«01_k».proof.Proof.KernelIdeal.Region2
public import proofs.«01_k».proof.Proof.KernelIdeal.Region3

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v8]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-- The contents of the buffers at the start. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The contents after the first two reshapes. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The contents of the buffers after the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents after the second stretch of reshapes. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The contents of the buffers after the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! From here on everything is stated at the contents `o` of the buffer of delays. -/

variable (o : Vec F S1x8 .i32)

/-- The contents of the buffers after the third call. -/
def W5 (c : Dev nD) : Valuation τ sig (Elt F) :=
  Pipeline.withArrays spec2 c (W4 m ρ c) fun w => (dat2 (V4 m ρ) o c).arrAt w cfg2.N
theorem W5_arr (c : Dev nD) (w : Fin cfg2.W) :
    W5 m ρ o c (Proc.devRef .tc (Pipeline.arrRef spec2 w)) = (dat2 (V4 m ρ) o c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ o c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ o c (Proc.devRef .tc r) = W4 m ρ c (Proc.devRef .tc r) := by
  by_cases hw : ∃ w : Fin cfg2.W, Pipeline.arrRef spec2 w = r
  · obtain ⟨w, rfl⟩ := hw
    exact (W5_arr m ρ o c w).trans (((dat2 (V4 m ρ) o c).arrAt_in w (h w rfl) _).trans (A_eq2 (V4 m ρ) o c w))
  · exact W5_of_ne m ρ o c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ o c (Proc.devRef .tc a) = m ((c : Thread nD τ).loc a) :=
  fun a ha => (W5_of m ρ o c a (argsIn2 a ha)).trans (W4_args m ρ c a ha)
abbrev V5 : (c : Dev nD) → (b : Ref sig .tc) → Buf (Elt F) ((c : Thread nD τ).loc b) := fun c b => W5 m ρ o c b
theorem hF2 (c : Dev nD) (w : Fin cfg2.W) : (dat2 (V4 m ρ) o c).arrAt w cfg2.N = V5 m ρ o c (Pipeline.arrRef spec2 w) :=
  (W5_arr m ρ o c w).symm
theorem hrest2 (c : Dev nD) : ∀ b, b ∉ Finset.univ.image (Pipeline.arrRef spec2) → V5 m ρ o c b = V4 m ρ c b :=
  fun b hb => W5_of_ne m ρ o c b fun w e => hb (Finset.mem_image.mpr ⟨w, Finset.mem_univ _, e⟩)

/-- The contents after the last reshape. -/
abbrev W6 : Dev nD → Valuation τ sig (Elt F) := fun c => StableHlo.after hostOps3 (W5 m ρ o c)
theorem W6_of (c : Dev nD) (r : Ref sig .tc) (h : r ∉ hostOps3_W) : W6 m ρ o c (Proc.devRef .tc r) = W5 m ρ o c (Proc.devRef .tc r) :=
  StableHlo.after_of_writes_sub hostOps3 _ hostOps3_writes h
theorem W6_args (c : Dev nD) : ∀ a ∈ argRefs, W6 m ρ o c (Proc.devRef .tc a) = m ((c : Thread nD τ).loc a) :=
  fun a ha => (W6_of m ρ o c a (hostOps3_args a ha)).trans (W5_args m ρ o c a ha)
abbrev V6 : (c : Dev nD) → (b : Ref sig .tc) → Buf (Elt F) ((c : Thread nD τ).loc b) := fun c b => W6 m ρ o c b

variable (hV : ∀ c t, InRange (iblk3 (V6 m ρ o) c 1 t))

/-- The contents of the buffers after the fourth call. -/
def W7 (c : Dev nD) : Valuation τ sig (Elt F) :=
  Pipeline.withArrays spec3 c (W6 m ρ o c) fun w => (dat3 (V6 m ρ o) hV c).arrAt w cfg3.N
theorem W7_arr (c : Dev nD) (w : Fin cfg3.W) :
    W7 m ρ o hV c (Proc.devRef .tc (Pipeline.arrRef spec3 w)) = (dat3 (V6 m ρ o) hV c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ o hV c (Proc.devRef .tc b) = W6 m ρ o c (Proc.devRef .tc b) := by
  unfold W7; exact Pipeline.withArrays_of_ne spec3 c _ _ b hb
theorem W7_of (c : Dev nD) (r : Ref sig .tc) (h : ∀ w : Fin cfg3.W, Pipeline.arrRef spec3 w = r → (cfg3.win w).isOut = false) :
    W7 m ρ o hV c (Proc.devRef .tc r) = W6 m ρ o c (Proc.devRef .tc r) := by
  by_cases hw : ∃ w : Fin cfg3.W, Pipeline.arrRef spec3 w = r
  · obtain ⟨w, rfl⟩ := hw
    exact (W7_arr m ρ o hV c w).trans (((dat3 (V6 m ρ o) hV c).arrAt_in w (h w rfl) _).trans (A_eq3 (V6 m ρ o) hV c w))
  · exact W7_of_ne m ρ o hV c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ o hV c (Proc.devRef .tc a) = m ((c : Thread nD τ).loc a) :=
  fun a ha => (W7_of m ρ o hV c a (argsIn3 a ha)).trans (W6_args m ρ o c a ha)
abbrev V7 : (c : Dev nD) → (b : Ref sig .tc) → Buf (Elt F) ((c : Thread nD τ).loc b) := fun c b => W7 m ρ o hV c b
theorem hF3 (c : Dev nD) (w : Fin cfg3.W) : (dat3 (V6 m ρ o) hV c).arrAt w cfg3.N = V7 m ρ o hV c (Pipeline.arrRef spec3 w) :=
  (W7_arr m ρ o hV c w).symm
theorem hrest3 (c : Dev nD) : ∀ b, b ∉ Finset.univ.image (Pipeline.arrRef spec3) → V7 m ρ o hV c b = V6 m ρ o c b :=
  fun b hb => W7_of_ne m ρ o hV c b fun w e => hb (Finset.mem_image.mpr ⟨w, Finset.mem_univ _, e⟩)

end Cert.KernelIdeal.Hand

end
-- ==== Proof.KernelIdeal.States.lean ====
/-
The data of the four calls together, and what rides along from one to the next.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.KernelIdeal.Contents

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (m : (ℓ : Loc nD τ sig) → Buf (Elt F) ℓ) (ρ : Dev nD → PrngReg)

/-- Some contents for the buffer of delays. -/
def someIdx : Vec F S1x8 .i32 := fun _ => (0#32 : BitVec 32)

/-- Data of the fourth call that stand in for its own where those are not asked for. -/
def dum3 (V : (c : Dev nD) → (b : Ref sig .tc) → Buf (Elt F) ((c : Thread nD τ).loc b)) (c : Dev nD) : Dat τ (Elt F) Unit ℕ (UR sig nD τ × UR sig nD τ) ℕ cfg3 c where
  A w := V c (Pipeline.arrRef spec3 w)
  after w t := fun _ => Classical.choice (Elt.nonempty F _)
  Φ _ := Pipeline.ΦA spec3 c
  q _ := fullShare
  owed _ := 0

/-- What the third call may leave in the buffer of delays: the words stored, over anything. -/
def Good (c : Dev nD) (o : Vec F S1x8 .i32) : Prop := Rl2 (V4 m ρ) c 1 ⟨0, by decide⟩ o

section
variable (V : (c : Dev nD) → (b : Ref sig .tc) → Buf (Elt F) ((c : Thread nD τ).loc b))

theorem arrAt2_exact (o₀ : Vec F S1x8 .i32) (c : Dev nD) (w : Fin cfg2.W) (h : fgt2 w = false)
    (A : Buf (Elt F) ((cfg2.win w).arr.view.loc (c.tc : Thread nD τ)))
    (hA : ((dat2 V o₀ c).toRRel fgt2 (Rl2 V c)).ArrAt w cfg2.N A) : A = (dat2 V o₀ c).arrAt w cfg2.N :=
  haveI : ∀ e, Nonempty (Elt F e) := Elt.nonempty F
  (((dat2 V o₀ c).toR.override_arrAt (by simp only [h]) cfg2.N A).trans ((dat2 V o₀ c).toR_arrAt_iff w cfg2.N A)).mp hA

/-- The arrays after the third call are exact arrays for some contents of the buffer of delays. -/
theorem arrs2_exact (o₀ : Vec F S1x8 .i32) (c : Dev nD) (A : (w : Fin cfg2.W) → Buf (Elt F) ((cfg2.win w).arr.view.loc (c.tc : Thread nD τ)))
    (hA : ∀ w, ((dat2 V o₀ c).toRRel fgt2 (Rl2 V c)).ArrAt w cfg2.N (A w)) :
    ∃ o : Vec F S1x8 .i32, Rl2 V c 1 ⟨0, by decide⟩ o ∧ A = fun w => (dat2 V o c).arrAt w cfg2.N := by
  haveI : ∀ e, Nonempty (Elt F e) := Elt.nonempty F
  obtain ⟨X, hX, hx⟩ := (hA 1).exists_exact
  refine ⟨X ⟨0, by decide⟩, (dat2 V o₀ c).toRRel_leaves (Rl := Rl2 V c) (show fgt2 1 = true from rfl) (hX ⟨0, by decide⟩ (by decide) (by decide +kernel)), ?_⟩
  funext w
  match w with
  | ⟨0, _⟩ => exact (arrAt2_exact V o₀ c 0 rfl _ (hA 0)).trans rfl
  | ⟨1, _⟩ =>
    exact hx (dat2 V (X ⟨0, by decide⟩) c).after (fun u _ _ => by
      have hu : u = ⟨0, by decide⟩ := Fin.ext (by have := u.isLt; have e : cfg2.N = 1 := by decide
                                                  omega)
      rw [hu]; rfl)
  | ⟨2, _⟩ => exact (arrAt2_exact V o₀ c 2 rfl _ (hA 2)).trans rfl

theorem arrays2 (o₀ : Vec F S1x8 .i32) (c : Dev nD) :
    (((dat2 V o₀ c).toRRel fgt2 (Rl2 V c)).arraysAt cfg2.N : sProp 𝕄)
      ⊢ iprop(∃ o : Vec F S1x8 .i32, ⌜Rl2 V c 1 ⟨0, by decide⟩ o⌝ ∗ (dat2 V o c).arrays ((dat2 V o c).arrAt · cfg2.N)) := by
  unfold Pipeline.RDat.arraysAt
  refine (BI.bigSep_exists_pi Finset.univ _).trans ?_
  iintro ⟨%A, H⟩
  ihave H' := (BI.bigSep_pure_sep Finset.univ (fun w => ((dat2 V o₀ c).toRRel fgt2 (Rl2 V c)).ArrAt w cfg2.N (A w)) _) $$ H
  icases H' with ⟨%hA, H⟩
  obtain ⟨o, ho, rfl⟩ := arrs2_exact V o₀ c A (fun w => hA w (Finset.mem_univ w))
  iexists o
  isplitr; · ipureintro; exact ho
  unfold Pipeline.Dat.arrays
  iexact H
end

/-- No call has a table of its own. -/
abbrev adm : (p : Fin 4) → (pcfgs (F := F) p).Adm := fun p => (cfgs p).toPCfg_adm
/-- The data of the calls. -/
def pdats : (p : Fin 4) → (c : Dev nD) → Dat τ (Elt F) Unit ℕ (UR sig nD τ × UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) someIdx c
  | ⟨3, _⟩ => fun c => dum3 (V4 m ρ) c
abbrev 𝒱₀ : Variants := Variants.none
abbrev L : GSem nD τ sig → Finset Unit := fun _ => ∅
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
/-- The ghost state of the last two calls, which rides along until they are reached. -/
abbrev GR (c : Dev nD) : sProp 𝕄 := iprop(
  (Pipeline.cellsGhost (Pipeline.pin (pcfgs (F := F)) adm) embR 2 c ∗ Pipeline.toksInit (Pipeline.pin (pcfgs (F := F)) adm) embR 2 c)
  ∗ (Pipeline.cellsGhost (Pipeline.pin (pcfgs (F := F)) adm) embR 3 c ∗ Pipeline.toksInit (Pipeline.pin (pcfgs (F := F)) adm) embR 3 c))
/-- The relational data of the third call, beside the exact data of the others. -/
def rdats : (p : Fin 4) → (c : Dev nD) → Pipeline.RDat τ (Elt F) Unit ℕ (UR sig nD τ × UR sig nD τ) ℕ (Pipeline.pin (pcfgs (F := F)) adm p) c
  | ⟨0, _⟩ => fun c => (dat0 (V1 m ρ) c).toR
  | ⟨1, _⟩ => fun c => (dat1 (V3 m ρ) c).toR
  | ⟨2, _⟩ => fun c => (dat2 (V4 m ρ) someIdx c).toRRel fgt2 (Rl2 (V4 m ρ) c)
  | ⟨3, _⟩ => fun c => (dum3 (V4 m ρ) c).toR
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ × UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => iprop(R c ∗ GR c))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdeal.Calls.lean ====
/-
The first three calls as segments of the program.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.KernelIdeal.States

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (m : (ℓ : Loc nD τ sig) → Buf (Elt F) ℓ) (ρ : Dev nD → PrngReg)

set_option backward.isDefEq.respectTransparency.types false in
/-- The first call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c ∗ GR c)
  post c := iprop(StableHlo.held (c : Thread nD τ) (Pipeline.ucRefs τ sig) (W2 m ρ c) ∗ R c ∗ GR c)
  X c := iprop(∃ r, prngReg c r)
  Y c := iprop(∃ r, prngReg c r)
  Z c := iprop(Pipeline.unscopedRest (Ix := Unit) (Name := ℕ) (U := UR sig nD τ × UR sig nD τ) (Lvl := ℕ) spec0 c (V1 m ρ c) ∗ GR (F := F) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ × UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest, HG⟩
    imodintro
    isplitl [Ha Hrest]
    · iapply hjoin; isplitl [Ha] <;> iassumption
    isplitr [HG]
    · isplitl [HY]; · iexact HY
      unfold Pipeline.Dat.owesAt Pipeline.owesWithin
      icases HO with ⟨%W, -, HO⟩; iexists W; iexact HO
    iexact HG

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c ∗ GR c)
  post c := iprop(StableHlo.held (c : Thread nD τ) (Pipeline.ucRefs τ sig) (W4 m ρ c) ∗ R c ∗ GR c)
  X c := iprop(∃ r, prngReg c r)
  Y c := iprop(∃ r, prngReg c r)
  Z c := iprop(Pipeline.unscopedRest (Ix := Unit) (Name := ℕ) (U := UR sig nD τ × UR sig nD τ) (Lvl := ℕ) spec1 c (V3 m ρ c) ∗ GR (F := F) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ × UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest, HG⟩
    imodintro
    isplitl [Ha Hrest]
    · iapply hjoin; isplitl [Ha] <;> iassumption
    isplitr [HG]
    · isplitl [HY]; · iexact HY
      unfold Pipeline.Dat.owesAt Pipeline.owesWithin
      icases HO with ⟨%W, -, HO⟩; iexists W; iexact HO
    iexact HG

set_option backward.isDefEq.respectTransparency.types false in
/-- The third call as a segment: it ends with some contents of the buffer of delays. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) someIdx c).toRRel
  hwaits := Pipeline.RDat.hwaits_of_owed_zero _ _ _ _ L lv 2 fun _ _ => rfl
  pre c := iprop(StableHlo.held (c : Thread nD τ) (Pipeline.ucRefs τ sig) (W4 m ρ c) ∗ R c)
  post c := iprop(∃ o, ⌜Good m ρ c o⌝ ∗ StableHlo.held (c : Thread nD τ) (Pipeline.ucRefs τ sig) (W5 m ρ o c) ∗ R c)
  X c := iprop(∃ r, prngReg c r)
  Y c := iprop(∃ r, prngReg c r)
  Z c := Pipeline.unscopedRest (Ix := Unit) (Name := ℕ) (U := UR sig nD τ × UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) someIdx c)
    rw [Pipeline.unscopedBufs_held] at hsplit
    iintro ⟨⟨Hub, Hp, HO⟩, -, -⟩
    ihave H := hsplit $$ Hub
    icases H with ⟨Ha, Hrest⟩
    imodintro
    isplitl [Ha]; · iapply (show (pdats m ρ 2 c).arrays ((pdats m ρ 2 c).arrAt · 0) ⊢ (rdats m ρ 2 c).arrays (rdats m ρ 2 c).A from .rfl); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    refine (show _ ⊢ iprop(((dat2 (V4 m ρ) someIdx c).toRRel fgt2 (Rl2 (V4 m ρ) c)).arraysAt cfg2.N ∗ _ ∗ _ ∗ _) from .rfl).trans ?_
    iintro ⟨Ha, HO, HY, Hrest⟩
    ihave Ha := (arrays2 (V4 m ρ) someIdx c) $$ Ha
    icases Ha with ⟨%o, %hg, Ha⟩
    have hjoin := Pipeline.unscopedBufs_of_arrays (p := 2) (pcfgs (F := F)) adm (Ix := Unit) (Name := ℕ) (U := UR sig nD τ × UR sig nD τ) (Lvl := ℕ)
      launch2.win launch2.arr_whole c (pdats m ρ) ((pdats m ρ 2 c).share_full fun _ => rfl)
      (V4 m ρ c) (V5 m ρ o c) ((dat2 (V4 m ρ) o c).arrAt · cfg2.N) (hF2 m ρ o c) (hrest2 m ρ o c)
    rw [Pipeline.unscopedBufs_held] at hjoin
    imodintro
    iexists o
    isplitr; · ipureintro; exact hg
    isplitl [Ha Hrest]
    · iapply hjoin
      isplitl [Ha]
      · iapply (show (dat2 (V4 m ρ) o c).arrays ((dat2 (V4 m ρ) o c).arrAt · cfg2.N) ⊢ (pdats m ρ 2 c).arrays ((dat2 (V4 m ρ) o c).arrAt · cfg2.N) from .rfl)
        iexact Ha
      iexact Hrest
    isplitl [HY]; · iexact HY
    unfold Pipeline.RDat.owesAt Pipeline.owesWithin
    icases HO with ⟨%W, -, HO⟩; iexists W; iexact HO

end Cert.KernelIdeal.Hand

end
-- ==== Proof.KernelIdeal.LastCall.lean ====
/-
The fourth call as a segment of the program.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.KernelIdeal.States

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (m : (ℓ : Loc nD τ sig) → Buf (Elt F) ℓ) (ρ : Dev nD → PrngReg)

variable (o : Vec F S1x8 .i32) (hV : ∀ c t, InRange (iblk3 (V6 m ρ o) c 1 t))

/-- The data of the calls, the fourth's at the delays `o`. -/
def pdats3 : (p : Fin 4) → (c : Dev nD) → Dat τ (Elt F) Unit ℕ (UR sig nD τ × UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) o c
  | ⟨3, _⟩ => fun c => dat3 (V6 m ρ o) hV c

/-- The buffers at the end. -/
abbrev held3 (c : Dev nD) : sProp 𝕄 := iprop(StableHlo.held (c : Thread nD τ) (Pipeline.ucRefs τ sig) (W7 m ρ o hV c) ∗ ∃ r, prngReg c r)

set_option backward.isDefEq.respectTransparency.types false in
/-- The fourth call as a segment. -/
def reg3 : Pipeline.RegionSeg (pcfgs (F := F)) adm (pdats3 m ρ o hV) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ o) hV c).loose
  hwaits := Pipeline.hwaits_of_owed_zero _ _ _ _ L lv 3 fun _ _ => rfl
  pre c := iprop(StableHlo.held (c : Thread nD τ) (Pipeline.ucRefs τ sig) (W6 m ρ o c) ∗ R c)
  post c := iprop(held3 m ρ o hV c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ × UR sig nD τ) (Lvl := ℕ) spec3 c (V6 m ρ o c)
  hentry c := by
    rw [Pipeline.ownSems0_none]
    have hsplit := Pipeline.arrays_of_unscopedBufs (p := 3) (pcfgs (F := F)) adm (pdats3 m ρ o hV) launch3.win launch3.arr_whole c
      ((pdats3 m ρ o hV 3 c).share_full fun _ => rfl) (V6 m ρ o c) (A_eq3 (V6 m ρ o) hV c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats3 m ρ o hV 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats3 m ρ o hV 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ × UR sig nD τ) (Lvl := ℕ)
      launch3.win launch3.arr_whole c (pdats3 m ρ o hV) ((pdats3 m ρ o hV 3 c).share_full fun _ => rfl)
      (V6 m ρ o c) (V7 m ρ o hV c) ((pdats3 m ρ o hV 3 c).arrAt · cfg3.N) (hF3 m ρ o hV c) (hrest3 m ρ o hV c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KernelIdeal.Rounds.lean ====
/-
The third call: five rounds, each of which finds the greatest entry of a row, the first lane that holds it,
and takes that lane out.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.KernelIdeal.Region2

public import proofs.«01_k».proof.Proof.KernelIdeal.Region3
public import Idealize.ShloMosaic.Lib.WordSum
public import Idealize.ShloMosaic.Lib.VecWindow
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

/-- The lane numbers. -/
def lanes : IVec S1x4096 32 := iota .tc S1x4096 32 [1] iota_S1x4096_d1_w32

/-- The greatest entry of a row. -/
def peak (u : FVec F S1x4096 .f32) : F .f32 :=
  extractAt ![0, 0, 0] (shapeCast S1x1x1 (multiReduction .maximumf [1, 2] S1 (shapeCast S1x1x4096 u shapeCasts_S1x4096_S1x1x4096)
    0xFF800000#32 reduces_S1x1x4096_S1 (.inl rfl) rfl) shapeCasts_S1_S1x1x1) inpos_S1x1x1_p0_0_0

/-- The first lane that holds the greatest entry. -/
def spot (u : FVec F S1x4096 .f32) : BitVec 32 :=
  extractAt ![0, 0, 0] (shapeCast S1x1x1 (multiReductionI .minsi [1, 2] S1 (shapeCast S1x1x4096
    (select (cmpf .oeq u (broadcast S1x4096 (peak u))) lanes (broadcast S1x4096 4096#32)) shapeCasts_S1x4096_S1x1x4096)
    2147483647#32 reduces_S1x1x4096_S1 rfl) shapeCasts_S1_S1x1x1) inpos_S1x1x1_p0_0_0

/-- The mask of that lane. -/
def mark (u : FVec F S1x4096 .f32) : IVec S1x4096 1 := cmpi .eq lanes (broadcast S1x4096 (spot u))

/-- The number of the lane that a mask marks. -/
def wordOf (p : IVec S1x4096 1) : BitVec 32 :=
  extractAt ![0, 0, 0] (shapeCast S1x1x1 (multiReductionI .add [1, 2] S1 (shapeCast S1x1x4096
    (select p lanes (broadcast S1x4096 0#32)) shapeCasts_S1x4096_S1x1x4096)
    0#32 reduces_S1x1x4096_S1 rfl) shapeCasts_S1_S1x1x1) inpos_S1x1x1_p0_0_0

/-- The entry of a row that a mask marks. -/
def entryOf (p : IVec S1x4096 1) (r : FVec F S1x4096 .f32) : F .f32 :=
  extractAt ![0, 0, 0] (shapeCast S1x1x1 (multiReduction .add [1, 2] S1 (shapeCast S1x1x4096
    (select p r (broadcast S1x4096 (Scalar.ofBits .f32 0x00000000#32))) shapeCasts_S1x4096_S1x1x4096)
    0x00000000#32 reduces_S1x1x4096_S1 (.inl rfl) rfl) shapeCasts_S1_S1x1x1) inpos_S1x1x1_p0_0_0

/-- The row with that lane taken out. -/
def without (u : FVec F S1x4096 .f32) : FVec F S1x4096 .f32 :=
  select (mark u) (broadcast S1x4096 (Named.named κ "mask" 0xFF61B1E6#32)) u

/-- The rows of the five rounds: the mean over the batch, then one lane fewer each time. -/
def round0 (x : Vec F S2x1x4096 .f32) : FVec F S1x4096 .f32 := k2_pay2 x
def round1 (x : Vec F S2x1x4096 .f32) : FVec F S1x4096 .f32 := without (round0 x)
def round2 (x : Vec F S2x1x4096 .f32) : FVec F S1x4096 .f32 := without (round1 x)
def round3 (x : Vec F S2x1x4096 .f32) : FVec F S1x4096 .f32 := without (round2 x)
def round4 (x : Vec F S2x1x4096 .f32) : FVec F S1x4096 .f32 := without (round3 x)

/-- The two rows of the batch. -/
def rowA (x : Vec F S2x1x4096 .f32) : FVec F S1x4096 .f32 := extractStridedSlice S1x4096 ![0, 0] (k2_pay1 x) slices_S2x4096_o0_0_S1x4096
def rowB (x : Vec F S2x1x4096 .f32) : FVec F S1x4096 .f32 := extractStridedSlice S1x4096 ![1, 0] (k2_pay1 x) slices_S2x4096_o1_0_S1x4096

/-- The softmax over the entries at the five lanes. -/
def weights (x : Vec F S2x1x4096 .f32) : FVec F S2x1x128 .f32 :=
  k2_pay30 (entryOf (mark (round3 x)) (rowA x)) (entryOf (mark (round3 x)) (rowB x))
    (entryOf (mark (round4 x)) (rowA x)) (entryOf (mark (round4 x)) (rowB x))
    (iota .tc S2x128 32 [1] iota_S2x128_d1_w32) (iota .tc S2x128 32 [0] iota_S2x128_d0_w32)
    (k2_pay27 (entryOf (mark (round0 x)) (rowA x)) (entryOf (mark (round0 x)) (rowB x))
      (entryOf (mark (round1 x)) (rowA x)) (entryOf (mark (round1 x)) (rowB x)))
    k2_pay28 (k2_pay29 (entryOf (mark (round2 x)) (rowA x)) (entryOf (mark (round2 x)) (rowB x)))
    (Scalar.ofBits .f32 0x00000000#32)

/-- The block that the third call loads. -/
def loaded (arg0 : Memref sig .tc .vmem S2x1x4096 .f32) (harg0 : arg0.IsWhole) (x0 : Vec F S2x1x4096 .f32) : Vec F S2x1x4096 .f32 :=
  View.readAt (Elt F) arg0.view (Rect.unit (s := S2x1x4096) ![0, 0, 0] S2x1x4096.size inb_S2x1x4096_S2x1x4096_0_0_0).toLoadRect (harg0.unread x0)

theorem loaded_eq (arg0 : Memref sig .tc .vmem S2x1x4096 .f32) (harg0 : arg0.IsWhole) (x0 : Vec F S2x1x4096 .f32) :
    loaded arg0 harg0 x0 = x0 := by
  funext j
  refine (harg0.readAt_unread x0 (Rect.unit (s := S2x1x4096) ![0, 0, 0] S2x1x4096.size inb_S2x1x4096_S2x1x4096_0_0_0).toLoadRect j).trans (congrArg x0 ?_)
  funext a
  apply Fin.ext
  show (![0, 0, 0] : Fin 3 → ℕ) a + 1 * (j a).val = (j a).val
  fin_cases a <;> simp

section
variable (c : Dev nD) (a : Memref sig .tc .vmem S2x1x4096 .f32) (h : a.IsWhole) (x : Vec F S2x1x4096 .f32)

theorem run2_v2 : kernelRun2_A.sl.v2 c a h x = k2_pay1 (loaded a h x) := rfl
theorem run2_v7 : kernelRun2_A.sl.v7 c a h x = round0 (loaded a h x) := rfl
theorem run2_v22 : kernelRun2_A.sl.v22 c a h x = mark (round0 (loaded a h x)) := rfl
theorem run2_r4 : kernelRun2_A.sl.r_4 c a h x = round2 (loaded a h x) := by
  unfold kernelRun2_A.sl.r_4; rw [run2_v7, run2_v22]; rfl
theorem run2_r5 : kernelRun2_A.sl.r_5 c a h x = cmpf .oeq (round2 (loaded a h x)) (broadcast S1x4096 (peak (round2 (loaded a h x)))) := by
  unfold kernelRun2_A.sl.r_5; rw [run2_v7, run2_v22]; rfl
theorem run2_r9 : kernelRun2_A.sl.r_9 c a h x = round3 (loaded a h x) := by
  unfold kernelRun2_A.sl.r_9; rw [run2_r4, run2_r5]; rfl
theorem run2_r10 : kernelRun2_A.sl.r_10 c a h x = mark (round3 (loaded a h x)) := by
  unfold kernelRun2_A.sl.r_10; rw [run2_r4, run2_r5]; rfl
theorem run2_r14 : kernelRun2_A.sl.r_14 c a h x = mark (round4 (loaded a h x)) := by
  unfold kernelRun2_A.sl.r_14; rw [run2_r9, run2_r10]; rfl
theorem run2_v28 : kernelRun2_A.sl.v28 c a h x = wordOf (mark (round0 (loaded a h x))) := rfl
theorem run2_v65 : kernelRun2_A.sl.v65 c a h x = wordOf (mark (round1 (loaded a h x))) := by
  unfold kernelRun2_A.sl.v65; rw [run2_v7, run2_v22]; rfl
theorem run2_v102 : kernelRun2_A.sl.v102 c a h x = wordOf (mark (round2 (loaded a h x))) := by
  unfold kernelRun2_A.sl.v102; rw [run2_r5]; rfl
theorem run2_v139 : kernelRun2_A.sl.v139 c a h x = wordOf (mark (round3 (loaded a h x))) := by
  unfold kernelRun2_A.sl.v139; rw [run2_r10]; rfl
theorem run2_v176 : kernelRun2_A.sl.v176 c a h x = wordOf (mark (round4 (loaded a h x))) := by
  unfold kernelRun2_A.sl.v176; rw [run2_r9, run2_r10]; rfl
theorem run2_r16 : kernelRun2_A.sl.r_16 c a h x = weights (loaded a h x) := by
  have e1 : kernelRun2_A.sl.r_2 c a h x = entryOf (mark (round1 (loaded a h x))) (rowA (loaded a h x)) := by
    unfold kernelRun2_A.sl.r_2; rw [run2_v2, run2_v7, run2_v22]; rfl
  have e2 : kernelRun2_A.sl.r_3 c a h x = entryOf (mark (round1 (loaded a h x))) (rowB (loaded a h x)) := by
    unfold kernelRun2_A.sl.r_3; rw [run2_v2, run2_v7, run2_v22]; rfl
  have e3 : kernelRun2_A.sl.r_7 c a h x = entryOf (mark (round2 (loaded a h x))) (rowA (loaded a h x)) := by
    unfold kernelRun2_A.sl.r_7; rw [run2_v2, run2_r5]; rfl
  have e4 : kernelRun2_A.sl.r_8 c a h x = entryOf (mark (round2 (loaded a h x))) (rowB (loaded a h x)) := by
    unfold kernelRun2_A.sl.r_8; rw [run2_v2, run2_r5]; rfl
  have e5 : kernelRun2_A.sl.r_12 c a h x = entryOf (mark (round3 (loaded a h x))) (rowA (loaded a h x)) := by
    unfold kernelRun2_A.sl.r_12; rw [run2_v2, run2_r10]; rfl
  have e6 : kernelRun2_A.sl.r_13 c a h x = entryOf (mark (round3 (loaded a h x))) (rowB (loaded a h x)) := by
    unfold kernelRun2_A.sl.r_13; rw [run2_v2, run2_r10]; rfl
  have e7 : kernelRun2_A.sl.v184 c a h x = entryOf (mark (round4 (loaded a h x))) (rowA (loaded a h x)) := by
    unfold kernelRun2_A.sl.v184 kernelRun2_A.sl.v183 kernelRun2_A.sl.v182 kernelRun2_A.sl.v181 kernelRun2_A.sl.v180; rw [run2_r14]; rfl
  have e8 : kernelRun2_A.sl.v191 c a h x = entryOf (mark (round4 (loaded a h x))) (rowB (loaded a h x)) := by
    unfold kernelRun2_A.sl.v191 kernelRun2_A.sl.v190 kernelRun2_A.sl.v189 kernelRun2_A.sl.v188 kernelRun2_A.sl.v187; rw [run2_r14]; rfl
  have e9 : kernelRun2_A.sl.v214 c a h x = k2_pay27 (entryOf (mark (round0 (loaded a h x))) (rowA (loaded a h x))) (entryOf (mark (round0 (loaded a h x))) (rowB (loaded a h x)))
      (entryOf (mark (round1 (loaded a h x))) (rowA (loaded a h x))) (entryOf (mark (round1 (loaded a h x))) (rowB (loaded a h x))) := by
    rw [← e1, ← e2]; rfl
  have e10 : kernelRun2_A.sl.v221 c a h x = k2_pay29 (entryOf (mark (round2 (loaded a h x))) (rowA (loaded a h x))) (entryOf (mark (round2 (loaded a h x))) (rowB (loaded a h x))) := by
    rw [← e3, ← e4]; rfl
  unfold kernelRun2_A.sl.r_16
  rw [e5, e6, e7, e8, e9, e10]
  rfl
end

/-- The five words stored. -/
theorem words2_eq (c : Dev nD) (t : Fin cfg2.N) : words2 V c t =
    [⟨Rect.unit (s := S1x8) ![0, 4] ![1, 1] (by decide), fun _ => wordOf (mark (round4 (iblk2 V c 0 t)))⟩,
     ⟨Rect.unit (s := S1x8) ![0, 3] ![1, 1] (by decide), fun _ => wordOf (mark (round3 (iblk2 V c 0 t)))⟩,
     ⟨Rect.unit (s := S1x8) ![0, 2] ![1, 1] (by decide), fun _ => wordOf (mark (round2 (iblk2 V c 0 t)))⟩,
     ⟨Rect.unit (s := S1x8) ![0, 1] ![1, 1] (by decide), fun _ => wordOf (mark (round1 (iblk2 V c 0 t)))⟩,
     ⟨Rect.unit (s := S1x8) ![0, 0] ![1, 1] (by decide), fun _ => wordOf (mark (round0 (iblk2 V c 0 t)))⟩] := by
  unfold words2 kernelRun2_A
  dsimp only
  rw [run2_v28, run2_v65, run2_v102, run2_v139, run2_v176, loaded_eq]

/-- The block of weights. -/
theorem outAt2_2_eq (c : Dev nD) (t : Fin cfg2.N) : outAt2_2 V c t = weights (iblk2 V c 0 t) := by
  unfold outAt2_2 out2_A_2 kernelRun2_A
  dsimp only
  rw [run2_r16, loaded_eq]
  exact View.read_writes_full VO2_2 _ _ _ _

theorem lanes_apply (i : S1x4096.Idx) : lanes i = BitVec.ofNat 32 (i 1).val := by
  unfold lanes iota
  congr 1
  simp

/-- A sum of all the lanes of a row of words. -/
theorem total_words (x : IVec S1x1x4096 32) (h : (0#32 : BitVec 32) = IKind.add.neutral) (j : S1.Idx) :
    multiReductionI .add [1, 2] S1 x 0#32 reduces_S1x1x4096_S1 h j = ∑ i, x i := by
  rw [multiReductionI_eq_reduceFold]
  refine (reduceFold_add_eq_sum _ _ _ _).trans ?_
  rw [show (0#32 : BitVec 32) = 0 from rfl, zero_add, Finset.filter_true_of_mem fun i _ => ?_]
  funext a
  fin_cases a
  exact Subsingleton.elim (α := Fin 1) _ _

theorem mark_select (v : BitVec 32) (q : S1x4096.Idx) :
    select (cmpi .eq lanes (broadcast S1x4096 v)) lanes (broadcast S1x4096 0#32) q = if lanes q = v then v else 0 := by
  show (if BitVec.ofBool (lanes q == v) = 1 then lanes q else 0#32) = _
  by_cases h : lanes q = v
  · rw [if_pos h, beq_iff_eq.2 h]; exact h
  · rw [if_neg h, beq_eq_false_iff_ne.2 h]; rfl

/-- The sum that reads a lane's number off a mask. -/
theorem wordOf_eq (v : BitVec 32) : wordOf (cmpi .eq lanes (broadcast S1x4096 v))
    = ∑ i : S1x1x4096.Idx, (if lanes (Shape.reshapeEquiv shapeCasts_S1x4096_S1x1x4096 i) = v then v else 0) := by
  refine (total_words _ rfl _).trans (Finset.sum_congr rfl fun i _ => ?_)
  exact mark_select v _

theorem lanes_inj {i j : S1x4096.Idx} (h : lanes i = lanes j) : i = j := by
  rw [lanes_apply, lanes_apply] at h
  have h1 : (i 1).val < 4096 := (i 1).isLt
  have h2 : (j 1).val < 4096 := (j 1).isLt
  have h3 := congrArg BitVec.toNat h
  rw [BitVec.toNat_ofNat, BitVec.toNat_ofNat, Nat.mod_eq_of_lt (by omega), Nat.mod_eq_of_lt (by omega)] at h3
  funext a
  fin_cases a
  · exact Subsingleton.elim (α := Fin 1) _ _
  · exact Fin.ext h3

/-- The mask of a lane reads back as that lane. -/
theorem wordOf_lane (q : S1x4096.Idx) : wordOf (cmpi .eq lanes (broadcast S1x4096 (lanes q))) = lanes q := by
  rw [wordOf_eq]
  refine (Finset.sum_eq_single ((Shape.reshapeEquiv shapeCasts_S1x4096_S1x1x4096).symm q) (fun i _ hi => if_neg fun h => hi ?_)
    fun h => absurd (Finset.mem_univ _) h).trans ?_
  · rw [← lanes_inj h, Equiv.symm_apply_apply]
  · rw [Equiv.apply_symm_apply, if_pos rfl]

/-- A word that a mask of one lane reads back as is a lane's number, or zero. -/
theorem wordOf_lt (v : BitVec 32) : (wordOf (cmpi .eq lanes (broadcast S1x4096 v))).toNat < 4096 := by
  by_cases h : ∃ q, lanes q = v
  · obtain ⟨q, rfl⟩ := h
    rw [wordOf_lane, lanes_apply]
    have h1 : (q 1).val < 4096 := (q 1).isLt
    rw [BitVec.toNat_ofNat, Nat.mod_eq_of_lt (by omega)]
    exact h1
  · rw [wordOf_eq, Finset.sum_eq_zero fun i _ => if_neg fun e => h ⟨_, e⟩]
    decide

/-- The words of the third call are lane numbers. -/
theorem good_inRange (c : Dev nD) (t : Fin cfg2.N) (X : Vec F S1x8 .i32) (h : Rl2 V c 1 t X) : InRange X := by
  obtain ⟨f, rfl⟩ := h
  rw [words2_eq]
  intro y hy
  have h0 : (y 0).val = 0 := by have : (y 0).val < 1 := (y 0).isLt; omega
  rw [View.read_writes_cons_unit _ _ _ _ _ _ rfl, View.read_writes_cons_unit _ _ _ _ _ _ rfl, View.read_writes_cons_unit _ _ _ _ _ _ rfl,
    View.read_writes_cons_unit _ _ _ _ _ _ rfl, View.read_writes_cons_unit _ _ _ _ _ _ rfl]
  split
  · exact wordOf_lt _
  split
  · exact wordOf_lt _
  split
  · exact wordOf_lt _
  split
  · exact wordOf_lt _
  split
  · exact wordOf_lt _
  rename_i h4 h3 h2 h1 h0'
  simp [Fin.forall_fin_two, h0] at h4 h3 h2 h1 h0'
  omega

end Cert.KernelIdeal.Hand

end
-- ==== Proof.KernelIdeal.Run.lean ====
/-
The launch: every run of the program ends, with the arguments as launched.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit
public import Idealize.ShloMosaic.Lib.Pipeline.RegionArraysF
public import Idealize.ShloMosaic.Lib.Pipeline.Kit
public import Idealize.ShloMosaic.Lib.WholeRead
public import proofs.«01_k».proof.Proof.KernelIdeal.Calls
public import proofs.«01_k».proof.Proof.KernelIdeal.LastCall
public import proofs.«01_k».proof.Proof.KernelIdeal.Rounds

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ × UR sig nD τ) ℕ

variable (m : (ℓ : Loc nD τ sig) → Buf (Elt F) ℓ) (ρ : Dev nD → PrngReg)

/-- The buffer of delays, as the fourth call reads it. -/
theorem arr2_1 (V : (c : Dev nD) → (b : Ref sig .tc) → Buf (Elt F) ((c : Thread nD τ).loc b)) (o : Vec F S1x8 .i32) (c : Dev nD) :
    (dat2 V o c).arrAt 1 cfg2.N = o := by
  refine (dat2 V o c).arrAt_eq_of_after_last 1 ⟨0, by decide⟩ (by decide +kernel) o (fun j => ?_)
  rfl

theorem idx_block (o : Vec F S1x8 .i32) (c : Dev nD) (t : Fin cfg3.N) : iblk3 (V6 m ρ o) c 1 t = o := by
  have hW : V6 m ρ o c (Pipeline.arrRef spec3 1) = o :=
    (W6_of m ρ o c (Pipeline.arrRef spec3 1) (by decide)).trans ((W5_arr m ρ o c 1).trans (arr2_1 _ o c))
  funext j
  unfold iblk3
  rw [hW]
  show o (((cfg3.win 1).blk t).view.emb j) = o j
  congr 1
  funext a
  apply Fin.ext
  blk_simp
  have h : win3_1.index t a = 0 := by fin_cases a <;> rfl
  rw [h, zero_mul, zero_add]

/-- What the third call leaves makes the fourth call's reads safe. -/
theorem good_blocks (c₀ : Dev nD) (o : Vec F S1x8 .i32) (h : Good m ρ c₀ o) (c : Dev nD) (t : Fin cfg3.N) :
    InRange (iblk3 (V6 m ρ o) c 1 t) := by
  rw [idx_block]
  exact good_inRange _ c₀ _ o h

/-- The thread state at the end: the fourth call's, at some contents that the third call may leave. -/
def Tₙ (c : Dev nD) : sProp 𝕄 :=
  iprop(∃ (o : Vec F S1x8 .i32) (hV : ∀ c t, InRange (iblk3 (V6 m ρ o) c 1 t)), ⌜Good m ρ c o⌝ ∗ held3 m ρ o hV c)

/-- The program from the third call on. -/
def tailProg : Prog (TpuEff nD τ sig (Elt F) (Pipeline.Sig Λ₀ (Fin 4) fun p => (pcfgs (F := F) p).Adm) .tc) PUnit :=
  .op (.customCall (Pipeline.entry 2) ()) fun _ => StableHlo.seq hostOps3 >>= fun _ => .op (.customCall (Pipeline.entry 3) ()) fun _ => .ret ⟨⟩

set_option backward.isDefEq.respectTransparency.types false in
/-- The run of the last two calls: the third leaves contents of the buffer of delays of which only the stored words are known,
and at these the fourth runs. -/
theorem tail_run (c : Dev nD) {β : Type} (k : PUnit → Prog (TpuEff nD τ sig (Elt F) (Pipeline.Sig Λ₀ (Fin 4) fun p => (pcfgs (F := F) p).Adm) .tc) β)
    (K : β → sProp 𝕄) :
    iprop((iprop(boundary (c.tc : Thread nD τ) ∗ (Tₙ m ρ c ∗ ∃ W, owes (c.tc : Thread nD τ) (0 : CellTallies nD τ sig Unit) W))
          -∗ wp frame (wpE (Pipeline.defs (pcfgs (F := F)) defs₀) (Variants.lift 𝒱₀) (c.tc : Thread nD τ) none) Set.univ (k ⟨⟩) K)
        ∗ boundary (c.tc : Thread nD τ) ∗ (StableHlo.held (c : Thread nD τ) (Pipeline.ucRefs τ sig) (W4 m ρ c) ∗ R c ∗ GR c) ∗ levAts L lv)
      ⊢ wp frame (wpE (Pipeline.defs (pcfgs (F := F)) defs₀) (Variants.lift 𝒱₀) (c.tc : Thread nD τ) none) Set.univ (tailProg >>= k) K := by
  have h2 := Pipeline.RDat.RegionSeg.wp (pcfgs (F := F)) adm (rdats m ρ) () cellOf_inj embR defs₀ 𝒱₀ L lv (reg2 m ρ) c none (fun u h => nomatch h)
    (fun _ => StableHlo.seq hostOps3 >>= fun _ => .op (.customCall (Pipeline.entry 3) ()) k) K
  iintro ⟨Hk, Hbd, ⟨Hh, HR, ⟨Hg2, Ht2⟩, Hg3, Ht3⟩, #Hla⟩
  iapply h2
  isplitr [Hbd Hh HR Hg2 Ht2]
  · iintro ⟨Hbd, Hp⟩
    ihave Hp' := (show (reg2 m ρ).post c ⊢ iprop(∃ o, ⌜Good m ρ c o⌝ ∗ StableHlo.held (c : Thread nD τ) (Pipeline.ucRefs τ sig) (W5 m ρ o c) ∗ R c) from .rfl) $$ Hp
    icases Hp' with ⟨%o, %ho, Hh, HR⟩
    have hV := good_blocks m ρ c o ho
    have hseq := StableHlo.wp_seq (defs := Pipeline.defs (pcfgs (F := F)) defs₀) (Variants.lift 𝒱₀) none Set.univ c (Pipeline.ucRefs τ sig)
      (fun _ => .op (.customCall (Pipeline.entry 3) ()) k) (K := K) hostOps3
      (fun op h => Pipeline.sub_ucRefs op ((List.forall_iff_forall_mem.mp hostOps3_sub) op h))
      (fun op h => (List.forall_iff_forall_mem.mp hostOps3_fresh) op h) (W5 m ρ o c)
    have h3 := Pipeline.RegionSeg.wp (pcfgs (F := F)) adm (pdats3 m ρ o hV) () cellOf_inj embR defs₀ 𝒱₀ L lv (reg3 m ρ o hV) c none (fun u h => nomatch h) k K
    iapply hseq $$ [Hbd Hh]
    · isplitl [Hbd] <;> iassumption
    iintro ⟨Hbd, Hh⟩
    iapply h3
    isplitr [Hbd Hh HR Hg3 Ht3]
    · iintro ⟨Hbd, Hp⟩
      ihave Hp' := (show (reg3 m ρ o hV).post c ⊢ iprop(held3 m ρ o hV c ∗ ∃ W, owes (c : Thread nD τ) (0 : CellTallies nD τ sig Unit) W) from .rfl) $$ Hp
      icases Hp' with ⟨Hp, HO⟩
      iapply Hk
      isplitl [Hbd]; · iexact Hbd
      isplitl [Hp]
      · unfold Tₙ
        iexists o, hV
        isplitr; · ipureintro; exact ho
        iexact Hp
      iexact HO
    isplitl [Hbd]; · iexact Hbd
    isplitl [Hh HR]
    · iapply (show iprop(StableHlo.held (c : Thread nD τ) (Pipeline.ucRefs τ sig) (W6 m ρ o c) ∗ R c) ⊢ (reg3 m ρ o hV).pre c from .rfl)
      isplitl [Hh]; · iexact Hh
      iexact HR
    isplitr; · iexact Hla
    isplitl [Hg3]; · iexact Hg3
    iexact Ht3
  isplitl [Hbd]; · iexact Hbd
  isplitl [Hh HR]
  · iapply (show iprop(StableHlo.held (c : Thread nD τ) (Pipeline.ucRefs τ sig) (W4 m ρ c) ∗ R c) ⊢ (reg2 m ρ).pre c from .rfl)
    isplitl [Hh]; · iexact Hh
    iexact HR
  isplitr; · iexact Hla
  isplitl [Hg2]; · iexact Hg2
  iexact Ht2

/-- The last two calls as one segment. -/
def tailSeg : Pipeline.HostSeg (Name := ℕ) (U := UR sig nD τ × UR sig nD τ) (pcfgs (F := F)) defs₀ 𝒱₀ L lv where
  prog := tailProg
  pre c := iprop(StableHlo.held (c : Thread nD τ) (Pipeline.ucRefs τ sig) (W4 m ρ c) ∗ R c ∗ GR c)
  post c := iprop(Tₙ m ρ c ∗ ∃ W, owes (c.tc : Thread nD τ) (0 : CellTallies nD τ sig Unit) W)
  run := tail_run m ρ

/-- The program's segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (tailSeg m ρ) ]

theorem main_run (c : Dev nD) : main (F := F) c = Pipeline.Seg.run (segs m ρ) := (main_chain c).trans (by chain_rfl)

theorem no_unscoped : ∀ sm : SemLoc sig, sm.isScoped .tc = true := by decide

theorem last_two (Φ : Fin 4 → sProp 𝕄) : bigSep Finset.univ Φ ⊢ iprop(Φ 2 ∗ Φ 3) := by
  have h : bigSep Finset.univ Φ = iprop(Φ 0 ∗ Φ 1 ∗ Φ 2 ∗ Φ 3) := by
    rw [show (Finset.univ : Finset (Fin 4)) = {0, 1, 2, 3} from by decide, BI.bigSep_insert (by decide), BI.bigSep_insert (by decide),
      BI.bigSep_insert (by decide), BI.bigSep_singleton]
    rfl
  rw [h]
  iintro ⟨-, -, H2, H3⟩
  isplitl [H2]; · iexact H2
  iexact H3

/-- The ghost state dealt for the last two calls. -/
theorem deal : (BI.own (embR (initOf (Pipeline.cells cfgs cellOf_inj) (Pipeline.launchToks cfgs cellOf_inj))) : sProp 𝕄)
    ⊢ iprop(|==> bigSep Finset.univ fun c : Dev nD => GR (F := F) c) := by
  have hf := Pipeline.fund_ghost (Ix := Unit) (Val := Elt F) (Name := ℕ) (U := UR sig nD τ × UR sig nD τ) (Lvl := ℕ) cfgs embR cellOf_inj
  have hj : ∀ c ∈ (Finset.univ : Finset (Dev nD)), iprop((bigSep Finset.univ fun p : Fin 4 => Pipeline.cellsGhost (Pipeline.pin (pcfgs (F := F)) adm) embR p c)
      ∗ (bigSep Finset.univ fun p : Fin 4 => (Pipeline.toksInit (Pipeline.pin (pcfgs (F := F)) adm) embR p c : sProp 𝕄))) ⊢ GR (F := F) c := fun c _ => by
    iintro ⟨Hc, Ht⟩
    ihave Hc' := (last_two (F := F) fun p => Pipeline.cellsGhost (Pipeline.pin (pcfgs (F := F)) adm) embR p c) $$ Hc
    ihave Ht' := (last_two (F := F) fun p => Pipeline.toksInit (Pipeline.pin (pcfgs (F := F)) adm) embR p c) $$ Ht
    icases Hc' with ⟨H2, H3⟩
    icases Ht' with ⟨T2, T3⟩
    isplitl [H2 T2]
    · isplitl [H2] <;> iassumption
    · isplitl [H3] <;> iassumption
  iintro H
  imod hf $$ H with ⟨Hc, Ht⟩
  imodintro
  iapply (show (bigSep Finset.univ fun c : Dev nD => iprop((bigSep Finset.univ fun p : Fin 4 => Pipeline.cellsGhost (Pipeline.pin (pcfgs (F := F)) adm) embR p c)
      ∗ (bigSep Finset.univ fun p : Fin 4 => (Pipeline.toksInit (Pipeline.pin (pcfgs (F := F)) adm) embR p c : sProp 𝕄))) : sProp 𝕄)
      ⊢ bigSep Finset.univ fun c : Dev nD => GR (F := F) c from BI.bigSep_mono hj)
  have e : (bigSep Finset.univ fun c : Dev nD => iprop((bigSep Finset.univ fun p : Fin 4 => Pipeline.cellsGhost (Pipeline.pin (pcfgs (F := F)) adm) embR p c)
      ∗ (bigSep Finset.univ fun p : Fin 4 => (Pipeline.toksInit (Pipeline.pin (pcfgs (F := F)) adm) embR p c : sProp 𝕄))) : sProp 𝕄)
      = iprop((bigSep Finset.univ fun c : Dev nD => bigSep Finset.univ fun p : Fin 4 => Pipeline.cellsGhost (Pipeline.pin (pcfgs (F := F)) adm) embR p c)
        ∗ (bigSep Finset.univ fun c : Dev nD => bigSep Finset.univ fun p : Fin 4 => (Pipeline.toksInit (Pipeline.pin (pcfgs (F := F)) adm) embR p c : sProp 𝕄))) :=
    BI.bigSep_sep _ _ _
  rw [e]
  isplitl [Hc]
  · iexact Hc
  · iexact Ht

set_option backward.isDefEq.respectTransparency.types false in
/-- Every run ends, with the memory that the fourth call leaves at some contents that the third may leave, and every counter at zero. -/
theorem run_main : θ_run defs (onTc (τ := τ) (main (F := F))) ⟨m, fun _ => 0, ρ⟩ (fun r => (∀ c : Dev nD,
      ∃ (o : Vec F S1x8 .i32) (hV : ∀ c t, InRange (iblk3 (V6 m ρ o) c 1 t)), Good m ρ c o
        ∧ ∀ b ∈ Pipeline.ucRefs τ sig, r.2.mem (((c : Thread nD τ)).1, b) = W7 m ρ o hV c b)
      ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun c => GR (F := F) c)
    (u₀ := (initOf (Pipeline.cells cfgs cellOf_inj) (Pipeline.launchToks cfgs cellOf_inj), initOf (Pipeline.cells cfgs cellOf_inj) (Pipeline.launchToks cfgs cellOf_inj)))
    (hu₀ := by
      iintro Hu
      ihave Hu' := (ownU_pair (initOf (Pipeline.cells cfgs cellOf_inj) (Pipeline.launchToks cfgs cellOf_inj)) (initOf (Pipeline.cells cfgs cellOf_inj) (Pipeline.launchToks cfgs cellOf_inj))) $$ Hu
      icases Hu' with ⟨HL, HR⟩
      imod (deal (F := F)) $$ HR with HG
      imodintro
      isplitl [HL]
      · iexact HL
      iexact HG)
    (T₀ := fun c => iprop(StableHlo.held (c : Thread nD τ) (Pipeline.ucRefs τ sig) (W0 m ρ c) ∗ R c ∗ GR c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, HG⟩, -⟩
      imodintro
      isplitl [Hh]; · iexact Hh
      isplitl [HO Hp]
      · isplitl [Hp]; · iexists _; iexact Hp
        iexists ∅; iexact HO
      iexact HG)
    (QY := fun c s => ∃ (o : Vec F S1x8 .i32) (hV : ∀ c t, InRange (iblk3 (V6 m ρ o) c 1 t)), Good m ρ c o
        ∧ ∀ b ∈ Pipeline.ucRefs τ sig, s.mem (((c : Thread nD τ)).1, b) = W7 m ρ o hV c b)
    (hfin := fun c s' => by
      unfold Tₙ held3
      iintro ⟨⟨%o, %hV, %ho, Hh, -⟩, HSI⟩
      unfold StableHlo.held
      ihave H := (pointsTo_read_all (Pipeline.ucRefs τ sig) (fun b => (((c : Thread nD τ)).1, b)) (W7 m ρ o hV c) s') $$ [Hh HSI]
      · isplitl [Hh] <;> iassumption
      icases H with ⟨%h, HSI⟩
      imodintro
      isplitr; · ipureintro; exact ⟨o, hV, ho, h⟩
      iexact HSI)
    (hQ := fun s h hz => ⟨h, funext fun g => hz g (.inr (no_unscoped g.2))⟩)

/-- Every run ends with the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => by
    obtain ⟨o, hV, -, h⟩ := hr.1 c
    exact ⟨(h _ (mem_uc main_arg0 (by decide))).trans (W7_args m ρ o hV c main_arg0 (by decide)),
      (h _ (mem_uc main_arg1 (by decide))).trans (W7_args m ρ o hV c main_arg1 (by decide)),
      (h _ (mem_uc main_arg2 (by decide))).trans (W7_args m ρ o hV c main_arg2 (by decide)),
      (h _ (mem_uc main_arg3 (by decide))).trans (W7_args m ρ o hV c main_arg3 (by decide)),
      (h _ (mem_uc main_arg4 (by decide))).trans (W7_args m ρ o hV c main_arg4 (by decide)),
      (h _ (mem_uc main_arg5 (by decide))).trans (W7_args m ρ o hV c main_arg5 (by decide)),
      (h _ (mem_uc main_arg6 (by decide))).trans (W7_args m ρ o hV c main_arg6 (by decide)),
      (h _ (mem_uc main_arg7 (by decide))).trans (W7_args m ρ o hV c main_arg7 (by decide))⟩, hr.2⟩) (run_main m ρ)

end Cert.KernelIdeal.Hand

end
-- ==== Proof.Claims.lean ====
/- The claims that hold of each program by itself: every run ends with its arguments as launched and its counters at zero, and the
   named constants are the ones that the kernel's words stand for. -/
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import Idealize.ShloMosaic.Adequacy
public import Idealize.ShloMosaic.Init
@[expose] public section
noncomputable section
namespace Cert.Proof

open Idealize.ShloMosaic Idealize.SL.Sem

theorem frame_p : Cert.quiescent_Kernel := fun m ρ _ => Cert.Kernel.Hand.frame (F := Bits) m ρ

theorem frame_pi : Cert.quiescent_KernelIdeal := fun m ρ _ => Cert.KernelIdeal.Hand.frame (F := Ideal) m ρ

theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The table gives the two names their values, and the printed constants are those values. -/
theorem preserves : Cert.preserves_Kernel_KernelIdeal :=
  ⟨IdealRules.named_const.statement Cert.KernelIdeal.κ "inv_d" .f32 0x3AAAAAAB#32 ((768⁻¹ : ℝ) : EReal) rfl,
   IdealRules.named_const.statement Cert.KernelIdeal.κ "mask" .f32 0xFF61B1E6#32 ⊥ rfl⟩

end Cert.Proof

end
-- ==== Proof.Value.Finite.lean ====
/-
The precondition, read back: every entry of the six arrays is a real number.
-/
module

public import proofs.«01_k».proof.Pre_finite
public import Idealize.ShloMosaic.Lib.Pointwise
public import Idealize.ShloMosaic.Lib.ReduceAll
public import Idealize.ShloMosaic.Lib.KernelVsHost

@[expose] public section

set_option maxRecDepth 16384

noncomputable section

namespace Cert.Finite

open Idealize.ShloMosaic Idealize.ShloMosaic.TcCoe Cert.Pre_finite

theorem facts : Facts := by
  constructor <;> decide

theorem bits_inf : Ideal.ofBits .f32 0x7F800000#32 = (⊤ : EReal) := by
  simp [Ideal.ofBits, Ideal.ieee]

theorem real_of {s : Shape} (x : FVec Ideal s .f32) (b : S_.BroadcastsInDim s (![] : Fin 0 → Fin s.rank)) {axes : List (Fin s.rank)} (red : s.ReducesTo axes S_) (hS : 0 < S_.numel) (j : S_.Idx)
    (e : Host.reduce IntOp.andi (cmpf .olt (Host.absf x) (broadcastInDim s ![] b (constant S_ .f32 0x7F800000#32))) (constantI S_ 1 1#1) red hS j = 1#1) :
    ∀ i, ∃ r : ℝ, (x i : EReal) = r := by
  intro i
  have : Subsingleton S_.Idx := ⟨fun a b => funext fun k => k.elim0⟩
  have h := Host.reduce_andi_all _ _ red hS j e i
  have h' : BitVec.ofBool (decide (max (x i) (-(x i)) < Ideal.ofBits .f32 0x7F800000#32)) = 1#1 := h
  rw [bits_inf] at h'
  generalize (x i : EReal) = v at h'
  induction v using EReal.rec with
  | bot => simp at h'
  | top => simp at h'
  | coe r => exact ⟨r, rfl⟩

theorem piece0 (v0 v1 v2 v3 v4 v5 : IVec S_ 1) (b : S_.BroadcastsInDim S1 (![] : Fin 0 → Fin S1.rank)) (h : Shape.Concatenates [S1, S1, S1, S1, S1, S1] S6 0) :
    concatenate S6 0 [⟨S1, broadcastInDim S1 ![] b v0⟩, ⟨S1, broadcastInDim S1 ![] b v1⟩, ⟨S1, broadcastInDim S1 ![] b v2⟩, ⟨S1, broadcastInDim S1 ![] b v3⟩, ⟨S1, broadcastInDim S1 ![] b v4⟩, ⟨S1, broadcastInDim S1 ![] b v5⟩] h (ix1 0) = v0 ix0 := by
  pointwise

theorem piece1 (v0 v1 v2 v3 v4 v5 : IVec S_ 1) (b : S_.BroadcastsInDim S1 (![] : Fin 0 → Fin S1.rank)) (h : Shape.Concatenates [S1, S1, S1, S1, S1, S1] S6 0) :
    concatenate S6 0 [⟨S1, broadcastInDim S1 ![] b v0⟩, ⟨S1, broadcastInDim S1 ![] b v1⟩, ⟨S1, broadcastInDim S1 ![] b v2⟩, ⟨S1, broadcastInDim S1 ![] b v3⟩, ⟨S1, broadcastInDim S1 ![] b v4⟩, ⟨S1, broadcastInDim S1 ![] b v5⟩] h (ix1 1) = v1 ix0 := by
  pointwise

theorem piece2 (v0 v1 v2 v3 v4 v5 : IVec S_ 1) (b : S_.BroadcastsInDim S1 (![] : Fin 0 → Fin S1.rank)) (h : Shape.Concatenates [S1, S1, S1, S1, S1, S1] S6 0) :
    concatenate S6 0 [⟨S1, broadcastInDim S1 ![] b v0⟩, ⟨S1, broadcastInDim S1 ![] b v1⟩, ⟨S1, broadcastInDim S1 ![] b v2⟩, ⟨S1, broadcastInDim S1 ![] b v3⟩, ⟨S1, broadcastInDim S1 ![] b v4⟩, ⟨S1, broadcastInDim S1 ![] b v5⟩] h (ix1 2) = v2 ix0 := by
  pointwise

theorem piece3 (v0 v1 v2 v3 v4 v5 : IVec S_ 1) (b : S_.BroadcastsInDim S1 (![] : Fin 0 → Fin S1.rank)) (h : Shape.Concatenates [S1, S1, S1, S1, S1, S1] S6 0) :
    concatenate S6 0 [⟨S1, broadcastInDim S1 ![] b v0⟩, ⟨S1, broadcastInDim S1 ![] b v1⟩, ⟨S1, broadcastInDim S1 ![] b v2⟩, ⟨S1, broadcastInDim S1 ![] b v3⟩, ⟨S1, broadcastInDim S1 ![] b v4⟩, ⟨S1, broadcastInDim S1 ![] b v5⟩] h (ix1 3) = v3 ix0 := by
  pointwise

theorem piece4 (v0 v1 v2 v3 v4 v5 : IVec S_ 1) (b : S_.BroadcastsInDim S1 (![] : Fin 0 → Fin S1.rank)) (h : Shape.Concatenates [S1, S1, S1, S1, S1, S1] S6 0) :
    concatenate S6 0 [⟨S1, broadcastInDim S1 ![] b v0⟩, ⟨S1, broadcastInDim S1 ![] b v1⟩, ⟨S1, broadcastInDim S1 ![] b v2⟩, ⟨S1, broadcastInDim S1 ![] b v3⟩, ⟨S1, broadcastInDim S1 ![] b v4⟩, ⟨S1, broadcastInDim S1 ![] b v5⟩] h (ix1 4) = v4 ix0 := by
  pointwise

theorem piece5 (v0 v1 v2 v3 v4 v5 : IVec S_ 1) (b : S_.BroadcastsInDim S1 (![] : Fin 0 → Fin S1.rank)) (h : Shape.Concatenates [S1, S1, S1, S1, S1, S1] S6 0) :
    concatenate S6 0 [⟨S1, broadcastInDim S1 ![] b v0⟩, ⟨S1, broadcastInDim S1 ![] b v1⟩, ⟨S1, broadcastInDim S1 ![] b v2⟩, ⟨S1, broadcastInDim S1 ![] b v3⟩, ⟨S1, broadcastInDim S1 ![] b v4⟩, ⟨S1, broadcastInDim S1 ![] b v5⟩] h (ix1 5) = v5 ix0 := by
  pointwise

theorem finite_all [Facts] (a0 a1 : FVec Ideal S2x4096x768 .f32) (a2 : FVec Ideal S768x768 .f32) (a3 : FVec Ideal S768 .f32) (a4 : FVec Ideal S768x768 .f32) (a5 : FVec Ideal S768 .f32) (a6 : FVec Ideal S768x768 .f32) (a7 : FVec Ideal S768 .f32)
    (h : fn (F := Ideal) a0 a1 a2 a3 a4 a5 a6 a7 = fun _ => 1#1) :
    (∀ i, ∃ r : ℝ, (a0 i : EReal) = r) ∧ (∀ i, ∃ r : ℝ, (a1 i : EReal) = r) ∧ (∀ i, ∃ r : ℝ, (a2 i : EReal) = r)
      ∧ (∀ i, ∃ r : ℝ, (a3 i : EReal) = r) ∧ (∀ i, ∃ r : ℝ, (a4 i : EReal) = r) ∧ (∀ i, ∃ r : ℝ, (a5 i : EReal) = r) := by
  have e := congrFun h
  unfold fn fn_part1 at e
  refine ⟨real_of a0 _ _ _ ix0 ((piece0 _ _ _ _ _ _ _ _).symm.trans (e (ix1 0))), real_of a1 _ _ _ ix0 ((piece1 _ _ _ _ _ _ _ _).symm.trans (e (ix1 1))),
    real_of a2 _ _ _ ix0 ((piece2 _ _ _ _ _ _ _ _).symm.trans (e (ix1 2))), real_of a3 _ _ _ ix0 ((piece3 _ _ _ _ _ _ _ _).symm.trans (e (ix1 3))),
    real_of a4 _ _ _ ix0 ((piece4 _ _ _ _ _ _ _ _).symm.trans (e (ix1 4))), real_of a5 _ _ _ ix0 ((piece5 _ _ _ _ _ _ _ _).symm.trans (e (ix1 5)))⟩

end Cert.Finite

end
-- ==== Proof.Value.Region0.lean ====
/-
The arrays that the first call leaves: the projections, their remainders and the rounded text.
-/
module

public import proofs.«01_k».proof.Proof.KernelIdeal.Region0
public import Idealize.ShloMosaic.Lib.Pipeline.ValueKit
public import Idealize.ShloMosaic.Lib.Pointwise
public import Idealize.ShloMosaic.Lib.KernelVsHost
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- One row of a projection against one row of the weights, with the bias. -/
def lin (X : FVec Ideal S2x4096x768 .f32) (W : FVec Ideal S768x768 .f32) (b : FVec Ideal S1x768 .f32) (p : Fin 2) (l : Fin 4096) (e : Fin 768) : EReal :=
  (∑ d : Fin 768, X (ix3 p l d) * W (ix2 e d)) + b (ix2 0 e)

theorem idx0 : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0]
    ∧ win0_6.index t = ![t.val / 8, 0, t.val % 8, 0] ∧ win0_7.index t = ![t.val / 8, 0, t.val % 8, 0]
    ∧ win0_8.index t = ![t.val / 8, t.val % 8, 0] ∧ win0_9.index t = ![t.val / 8, t.val % 8, 0] ∧ win0_10.index t = ![t.val / 8, 0, t.val % 8, 0] :=
  (by decide +kernel : ∀ t : Fin grid0.N, _)

variable (V : (c : Dev nD) → (b : Ref sig .tc) → Buf (Elt Ideal) ((c : Thread nD τ).loc b)) (c : Dev nD)

theorem arr0_kh : (dat0 V c).arrAt 8 cfg0.N = fun y : S2x4096x768.Idx => lin (V c main_arg1) (V c main_arg4) (V c main_v1) (y 0) (y 1) (y 2) := by
  refine (dat0 V c).arrAt_eq_of_covers 8 _ (by decide +kernel) fun t hf y => ?_
  blk_simp
  rw [after0_8]
  unfold out0_8
  frame_out
  pointwise [k0_pay3, k0_pay12, lin, k0_pay9]
  blk_point [iblk0, idx0 t]

theorem arr0_kl : (dat0 V c).arrAt 9 cfg0.N = fun y : S2x4096x768.Idx => lin (V c main_arg1) (V c main_arg4) (V c main_v1) (y 0) (y 1) (y 2) - lin (V c main_arg1) (V c main_arg4) (V c main_v1) (y 0) (y 1) (y 2) := by
  refine (dat0 V c).arrAt_eq_of_covers 9 _ (by decide +kernel) fun t hf y => ?_
  blk_simp
  rw [after0_9]
  unfold out0_9
  frame_out
  pointwise [k0_pay4, k0_pay13, lin, k0_pay9, k0_pay12]
  blk_point [iblk0, idx0 t]

theorem arr0_qh : (dat0 V c).arrAt 6 cfg0.N = fun y : S2x2x4096x768.Idx => lin (V c main_arg0) (V c main_arg2) (V c main_v0) (y 0) (y 2) (y 3) := by
  refine (dat0 V c).arrAt_eq_of_covers 6 _ (by decide +kernel) fun t hf y => ?_
  blk_simp
  rw [after0_6]
  unfold out0_6
  canon_tiles x h
  all_goals
    pointwise [k0_pay15, k0_pay16, k0_pay10, lin, k0_pay8]
    blk_point [iblk0, idx0 t]

theorem arr0_ql : (dat0 V c).arrAt 7 cfg0.N = fun y : S2x2x4096x768.Idx => lin (V c main_arg0) (V c main_arg2) (V c main_v0) (y 0) (y 2) (y 3) - lin (V c main_arg0) (V c main_arg2) (V c main_v0) (y 0) (y 2) (y 3) := by
  refine (dat0 V c).arrAt_eq_of_covers 7 _ (by decide +kernel) fun t hf y => ?_
  blk_simp
  rw [after0_7]
  unfold out0_7
  canon_tiles x h
  all_goals
    pointwise [k0_pay1, k0_pay2, k0_pay17, k0_pay11, lin, k0_pay8, k0_pay10]
    blk_point [iblk0, idx0 t]

theorem arr0_td : (dat0 V c).arrAt 10 cfg0.N = fun y : S2x2x4096x768.Idx => V c main_arg1 (ix3 (y 0) (y 2) (y 3)) := by
  refine (dat0 V c).arrAt_eq_of_covers 10 _ (by decide +kernel) fun t hf y => ?_
  blk_simp
  rw [after0_10]
  unfold out0_10
  canon_tiles x h
  all_goals
    pointwise [k0_pay5, k0_pay6, k0_pay18, k0_pay14]
    blk_point [iblk0, idx0 t]

end Cert.KernelIdeal.Hand

end
-- ==== Proof.Value.Host.lean ====
/-
The reshapes between the calls, and what each call reads of the arguments.
-/
module

public import proofs.«01_k».proof.Proof.KernelIdeal.Run
public import proofs.«01_k».proof.Proof.Value.Region0
public import Idealize.ShloMosaic.Lib.Pipeline.ValueKit
public import Idealize.ShloMosaic.Lib.Pointwise
public import Idealize.ShloMosaic.Lib.KernelVsHost
public import Idealize.ShloMosaic.Lib.WholeRead
public import Idealize.ShloMosaic.Lib.StableHlo.Run

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem W1_v0 : W1 m ρ c (Proc.devRef .tc main_v0) = shapeCast S1x768 (m ((c.tc : Thread nD τ).loc main_arg3)) shapeCasts_S768_S1x768 := by
  show StableHlo.after hostOps0 _ _ = _
  after_results_simp
  rfl
theorem W1_v1 : W1 m ρ c (Proc.devRef .tc main_v1) = shapeCast S1x768 (m ((c.tc : Thread nD τ).loc main_arg5)) shapeCasts_S768_S1x768 := by
  show StableHlo.after hostOps0 _ _ = _
  after_results_simp
  rfl
theorem W3_v3 : W3 m ρ c (Proc.devRef .tc main_v3) = shapeCast S2x8192x768 (W2 m ρ c (Proc.devRef .tc main_v2_0)) shapeCasts_S2x2x4096x768_S2x8192x768 := by
  show StableHlo.after hostOps1 _ _ = _
  after_results_simp
  rfl
theorem W3_v4 : W3 m ρ c (Proc.devRef .tc main_v4) = shapeCast S2x8192x768 (W2 m ρ c (Proc.devRef .tc main_v2_1)) shapeCasts_S2x2x4096x768_S2x8192x768 := by
  show StableHlo.after hostOps1 _ _ = _
  after_results_simp
  rfl
theorem W3_v5 : W3 m ρ c (Proc.devRef .tc main_v5) = shapeCast S2x8192x768 (W2 m ρ c (Proc.devRef .tc main_v2_4)) shapeCasts_S2x2x4096x768_S2x8192x768 := by
  show StableHlo.after hostOps1 _ _ = _
  after_results_simp
  rfl
theorem W6_v8 (o : Vec Ideal S1x8 .i32) : W6 m ρ o c (Proc.devRef .tc main_v8) = shapeCast S1x768 (m ((c.tc : Thread nD τ).loc main_arg7)) shapeCasts_S768_S1x768 := by
  rw [← W5_args m ρ o c main_arg7 (by decide)]
  show StableHlo.after hostOps3 _ _ = _
  after_results_simp
  rfl

theorem bias_apply (b : FVec Ideal S768 .f32) (e : Fin 768) : shapeCast S1x768 b shapeCasts_S768_S1x768 (ix2 0 e) = b (ix1 e) := by
  pointwise

/-- Two copies of the rows, one after the other. -/
theorem twice_apply (x : FVec Ideal S2x2x4096x768 .bf16) (p : Fin 2) (n : Fin 8192) (d : Fin 768) :
    shapeCast S2x8192x768 x shapeCasts_S2x2x4096x768_S2x8192x768 (ix3 p n d) = x (ix4 p ⟨n.val / 4096, by omega⟩ ⟨n.val % 4096, Nat.mod_lt _ (by decide)⟩ d) := by
  pointwise

end Cert.KernelIdeal.Hand

end
-- ==== Proof.Value.Tree.lean ====
/-
The sums along the diagonals of a block of scores, halved level by level.
-/
module

public import proofs.«01_k».proof.Proof.KernelIdeal.Region1
public import Idealize.ShloMosaic.Lib.Pipeline.ValueKit
public import Idealize.ShloMosaic.Lib.Pointwise
public import Idealize.ShloMosaic.Lib.KernelVsHost
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The lower 128 rows rolled onto the upper 128. -/
def fold128 (x : FVec Ideal S256x2304 .f32) : FVec Ideal S128x2304 .f32 :=
  addf (extractStridedSlice S128x2304 ![0, 0] x slices_S256x2304_o0_0_S128x2304)
    (dynamicRotate 1 2176#32 none (extractStridedSlice S128x2304 ![128, 0] x slices_S256x2304_o128_0_S128x2304) rotates_S128x2304_d1)

theorem fold128_sum (x : FVec Ideal S256x2304 .f32) (j : ℕ) :
    (∑ r : Fin 128, fold128 x (ix2 r ⟨(j + r.val) % 2304, Nat.mod_lt _ (by decide)⟩)) = ∑ r : Fin 256, x (ix2 r ⟨(j + r.val) % 2304, Nat.mod_lt _ (by decide)⟩) := by
  rw [show (∑ r : Fin 256, x (ix2 r ⟨(j + r.val) % 2304, Nat.mod_lt _ (by decide)⟩)) = _ from Fin.sum_univ_add (a := 128) (b := 128) _, ← Finset.sum_add_distrib]
  refine Finset.sum_congr rfl fun r _ => ?_
  pointwise [fold128]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 64 rows rolled onto the upper 64. -/
def fold64 (x : FVec Ideal S128x2304 .f32) : FVec Ideal S64x2304 .f32 :=
  addf (extractStridedSlice S64x2304 ![0, 0] x slices_S128x2304_o0_0_S64x2304)
    (dynamicRotate 1 2240#32 none (extractStridedSlice S64x2304 ![64, 0] x slices_S128x2304_o64_0_S64x2304) rotates_S64x2304_d1)

theorem fold64_sum (x : FVec Ideal S128x2304 .f32) (j : ℕ) :
    (∑ r : Fin 64, fold64 x (ix2 r ⟨(j + r.val) % 2304, Nat.mod_lt _ (by decide)⟩)) = ∑ r : Fin 128, x (ix2 r ⟨(j + r.val) % 2304, Nat.mod_lt _ (by decide)⟩) := by
  rw [show (∑ r : Fin 128, x (ix2 r ⟨(j + r.val) % 2304, Nat.mod_lt _ (by decide)⟩)) = _ from Fin.sum_univ_add (a := 64) (b := 64) _, ← Finset.sum_add_distrib]
  refine Finset.sum_congr rfl fun r _ => ?_
  pointwise [fold64]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 32 rows rolled onto the upper 32. -/
def fold32 (x : FVec Ideal S64x2304 .f32) : FVec Ideal S32x2304 .f32 :=
  addf (extractStridedSlice S32x2304 ![0, 0] x slices_S64x2304_o0_0_S32x2304)
    (dynamicRotate 1 2272#32 none (extractStridedSlice S32x2304 ![32, 0] x slices_S64x2304_o32_0_S32x2304) rotates_S32x2304_d1)

theorem fold32_sum (x : FVec Ideal S64x2304 .f32) (j : ℕ) :
    (∑ r : Fin 32, fold32 x (ix2 r ⟨(j + r.val) % 2304, Nat.mod_lt _ (by decide)⟩)) = ∑ r : Fin 64, x (ix2 r ⟨(j + r.val) % 2304, Nat.mod_lt _ (by decide)⟩) := by
  rw [show (∑ r : Fin 64, x (ix2 r ⟨(j + r.val) % 2304, Nat.mod_lt _ (by decide)⟩)) = _ from Fin.sum_univ_add (a := 32) (b := 32) _, ← Finset.sum_add_distrib]
  refine Finset.sum_congr rfl fun r _ => ?_
  pointwise [fold32]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 16 rows rolled onto the upper 16. -/
def fold16 (x : FVec Ideal S32x2304 .f32) : FVec Ideal S16x2304 .f32 :=
  addf (extractStridedSlice S16x2304 ![0, 0] x slices_S32x2304_o0_0_S16x2304)
    (dynamicRotate 1 2288#32 none (extractStridedSlice S16x2304 ![16, 0] x slices_S32x2304_o16_0_S16x2304) rotates_S16x2304_d1)

theorem fold16_sum (x : FVec Ideal S32x2304 .f32) (j : ℕ) :
    (∑ r : Fin 16, fold16 x (ix2 r ⟨(j + r.val) % 2304, Nat.mod_lt _ (by decide)⟩)) = ∑ r : Fin 32, x (ix2 r ⟨(j + r.val) % 2304, Nat.mod_lt _ (by decide)⟩) := by
  rw [show (∑ r : Fin 32, x (ix2 r ⟨(j + r.val) % 2304, Nat.mod_lt _ (by decide)⟩)) = _ from Fin.sum_univ_add (a := 16) (b := 16) _, ← Finset.sum_add_distrib]
  refine Finset.sum_congr rfl fun r _ => ?_
  pointwise [fold16]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 8 rows rolled onto the upper 8. -/
def fold8 (x : FVec Ideal S16x2304 .f32) : FVec Ideal S8x2304 .f32 :=
  addf (extractStridedSlice S8x2304 ![0, 0] x slices_S16x2304_o0_0_S8x2304)
    (dynamicRotate 1 2296#32 none (extractStridedSlice S8x2304 ![8, 0] x slices_S16x2304_o8_0_S8x2304) rotates_S8x2304_d1)

theorem fold8_sum (x : FVec Ideal S16x2304 .f32) (j : ℕ) :
    (∑ r : Fin 8, fold8 x (ix2 r ⟨(j + r.val) % 2304, Nat.mod_lt _ (by decide)⟩)) = ∑ r : Fin 16, x (ix2 r ⟨(j + r.val) % 2304, Nat.mod_lt _ (by decide)⟩) := by
  rw [show (∑ r : Fin 16, x (ix2 r ⟨(j + r.val) % 2304, Nat.mod_lt _ (by decide)⟩)) = _ from Fin.sum_univ_add (a := 8) (b := 8) _, ← Finset.sum_add_distrib]
  refine Finset.sum_congr rfl fun r _ => ?_
  pointwise [fold8]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 4 rows rolled onto the upper 4. -/
def fold4 (x : FVec Ideal S8x2304 .f32) : FVec Ideal S4x2304 .f32 :=
  addf (extractStridedSlice S4x2304 ![0, 0] x slices_S8x2304_o0_0_S4x2304)
    (dynamicRotate 1 2300#32 none (extractStridedSlice S4x2304 ![4, 0] x slices_S8x2304_o4_0_S4x2304) rotates_S4x2304_d1)

theorem fold4_sum (x : FVec Ideal S8x2304 .f32) (j : ℕ) :
    (∑ r : Fin 4, fold4 x (ix2 r ⟨(j + r.val) % 2304, Nat.mod_lt _ (by decide)⟩)) = ∑ r : Fin 8, x (ix2 r ⟨(j + r.val) % 2304, Nat.mod_lt _ (by decide)⟩) := by
  rw [show (∑ r : Fin 8, x (ix2 r ⟨(j + r.val) % 2304, Nat.mod_lt _ (by decide)⟩)) = _ from Fin.sum_univ_add (a := 4) (b := 4) _, ← Finset.sum_add_distrib]
  refine Finset.sum_congr rfl fun r _ => ?_
  pointwise [fold4]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 2 rows rolled onto the upper 2. -/
def fold2 (x : FVec Ideal S4x2304 .f32) : FVec Ideal S2x2304 .f32 :=
  addf (extractStridedSlice S2x2304 ![0, 0] x slices_S4x2304_o0_0_S2x2304)
    (dynamicRotate 1 2302#32 none (extractStridedSlice S2x2304 ![2, 0] x slices_S4x2304_o2_0_S2x2304) rotates_S2x2304_d1)

theorem fold2_sum (x : FVec Ideal S4x2304 .f32) (j : ℕ) :
    (∑ r : Fin 2, fold2 x (ix2 r ⟨(j + r.val) % 2304, Nat.mod_lt _ (by decide)⟩)) = ∑ r : Fin 4, x (ix2 r ⟨(j + r.val) % 2304, Nat.mod_lt _ (by decide)⟩) := by
  rw [show (∑ r : Fin 4, x (ix2 r ⟨(j + r.val) % 2304, Nat.mod_lt _ (by decide)⟩)) = _ from Fin.sum_univ_add (a := 2) (b := 2) _, ← Finset.sum_add_distrib]
  refine Finset.sum_congr rfl fun r _ => ?_
  pointwise [fold2]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The lower 1 rows rolled onto the upper 1. -/
def fold1 (x : FVec Ideal S2x2304 .f32) : FVec Ideal S1x2304 .f32 :=
  addf (extractStridedSlice S1x2304 ![0, 0] x slices_S2x2304_o0_0_S1x2304)
    (dynamicRotate 1 2303#32 none (extractStridedSlice S1x2304 ![1, 0] x slices_S2x2304_o1_0_S1x2304) rotates_S1x2304_d1)

theorem fold1_sum (x : FVec Ideal S2x2304 .f32) (j : ℕ) :
    (∑ r : Fin 1, fold1 x (ix2 r ⟨(j + r.val) % 2304, Nat.mod_lt _ (by decide)⟩)) = ∑ r : Fin 2, x (ix2 r ⟨(j + r.val) % 2304, Nat.mod_lt _ (by decide)⟩) := by
  rw [show (∑ r : Fin 2, x (ix2 r ⟨(j + r.val) % 2304, Nat.mod_lt _ (by decide)⟩)) = _ from Fin.sum_univ_add (a := 1) (b := 1) _, ← Finset.sum_add_distrib]
  refine Finset.sum_congr rfl fun r _ => ?_
  pointwise [fold1]
  have hr := r.isLt
  refine congrArg₂ (· + ·) (congrArg x (congrArg₂ ix2 (Fin.ext ?_) (Fin.ext ?_))) (congrArg x (congrArg₂ ix2 (Fin.ext ?_) (Fin.ext ?_)))
  all_goals simp only [Fin.val_castAdd, Fin.val_natAdd, BitVec.toNat_ofNat]
  all_goals first | omega | (obtain rfl : r = 0 := Subsingleton.elim _ _; rfl)

/-- The sums along the diagonals. -/
def tree (x : FVec Ideal S256x2304 .f32) : FVec Ideal S1x2304 .f32 := fold1 (fold2 (fold4 (fold8 (fold16 (fold32 (fold64 (fold128 x)))))))

theorem tree_sum (x : FVec Ideal S256x2304 .f32) (j : ℕ) (hj : j < 2304) :
    tree x (ix2 0 ⟨j, hj⟩) = ∑ r : Fin 256, x (ix2 r ⟨(j + r.val) % 2304, Nat.mod_lt _ (by decide)⟩) := by
  unfold tree
  rw [← fold128_sum, ← fold64_sum, ← fold32_sum, ← fold16_sum, ← fold8_sum, ← fold4_sum, ← fold2_sum, ← fold1_sum, Fin.sum_univ_one]
  exact congrArg (fun k => fold1 _ (ix2 0 k)) (Fin.ext (Nat.mod_eq_of_lt hj).symm)

/-- The scores of a block of keys against the rolled queries. -/
def scores (kh kl : Vec Ideal S1x256x768 .bf16) (qh ql : Vec Ideal S1x2304x768 .bf16) : FVec Ideal S256x2304 .f32 :=
  addf (addf (k1_pay9 (k1_pay3 kh kl) qh) (k1_pay10 (k1_pay3 kh kl) qh))
    (matmul dot_S256x768_S2304x768_S256x2304_1_1_0_0_n_n none (k1_pay2 kh) (k1_pay7 ql) (constant S256x2304 .f32 0x00000000#32))

theorem scores_apply (kh kl : Vec Ideal S1x256x768 .bf16) (qh ql : Vec Ideal S1x2304x768 .bf16) (i : Fin 256) (j : Fin 2304) :
    scores kh kl qh ql (ix2 i j) = ((∑ d : Fin 768, kh (ix3 0 i d) * qh (ix3 0 j d)) + ∑ d : Fin 768, kl (ix3 0 i d) * qh (ix3 0 j d)) + ∑ d : Fin 768, kh (ix3 0 i d) * ql (ix3 0 j d) := by
  pointwise [scores, k1_pay9, k1_pay10, k1_pay3, k1_pay2, k1_pay7, k1_pay8]

/-- A half row of sums added to what it held. -/
def addRow (x : FVec Ideal S1x2304 .f32) (old : Vec Ideal S1x1x2048 .f32) : FVec Ideal S1x1x2048 .f32 :=
  shapeCast S1x1x2048 (addf (shapeCast S1x2048 old shapeCasts_S1x1x2048_S1x2048)
    (mulf (extractStridedSlice S1x2048 ![0, 0] x slices_S1x2304_o0_0_S1x2048) (broadcast S1x2048 (Named.named κ "inv_d" 0x3AAAAAAB#32)))) shapeCasts_S1x2048_S1x1x2048

theorem addRow_apply (x : FVec Ideal S1x2304 .f32) (old : Vec Ideal S1x1x2048 .f32) (z z' : Fin 1) (j : Fin 2048) :
    addRow x old (ix3 z z' j) = old (ix3 0 0 j) + x (ix2 0 ⟨j.val, by omega⟩) * ((768⁻¹ : ℝ) : EReal) := by
  pointwise [addRow]
  rfl

theorem pay6_eq (kh kl : Vec Ideal S1x256x768 .bf16) (qh ql : Vec Ideal S1x2304x768 .bf16) (old : Vec Ideal S1x1x2048 .f32) :
    k1_pay6 (k1_pay4 kh kl qh ql) (k1_pay5 kh kl qh ql) old = addRow (tree (scores kh kl qh ql)) old := rfl

theorem pay11_eq (kh kl : Vec Ideal S1x256x768 .bf16) (qh ql : Vec Ideal S1x2304x768 .bf16) (old : Vec Ideal S1x1x2048 .f32) :
    k1_pay11 (k1_pay2 kh) (k1_pay7 ql) (k1_pay9 (k1_pay3 kh kl) qh) (k1_pay10 (k1_pay3 kh kl) qh) old = addRow (tree (scores kh kl qh ql)) old := rfl

end Cert.KernelIdeal.Hand

end
-- ==== Proof.Value.Region1.lean ====
/-
What a point of the second call adds to a lane.
-/
module

public import proofs.«01_k».proof.Proof.KernelIdeal.Region1
public import proofs.«01_k».proof.Proof.Value.Tree
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

theorem k1_off1_eq (i : grid1.Coords) (w : BitVec 32) (hw : w.toNat ≤ 2048) :
    k1_off1 i w = ![0, (256 * (i 1).val + w.toNat) % 4096, 0] := by
  have hi : (i 1).val < 16 := (i 1).isLt
  have e : (IntOp.remsi .scalar (BitVec.ofNat 32 (i 1).val * 256#32 + w) 4096#32 : BitVec 32).toNat = (256 * (i 1).val + w.toNat) % 4096 := by
    have e0 : (BitVec.ofNat 32 (i 1).val * 256#32 + w).toNat = 256 * (i 1).val + w.toNat := by
      simp only [BitVec.toNat_add, BitVec.toNat_mul, BitVec.toNat_ofNat]
      omega
    exact (IntOp.toNat_remsi .scalar (by rw [e0]; omega) 4096 (by decide) (by decide)).trans (by rw [e0])
  rw [← e]; rfl

theorem lines_at (x0 : Vec Ideal S1x6400x768 .bf16) (off : Fin 3 → ℕ) (k : ℕ) (ho : off = ![0, k, 0])
    (hb : ∀ a, off a + (![1, 2304, 768] : Fin 3 → ℕ) a ≤ S1x6400x768.size a) (j : Fin 2304) (d : Fin 768) :
    View.ld x0 (Rect.unit (s := S1x6400x768) off ![1, 2304, 768] hb) (ix3 0 j d) = x0 (ix3 0 ⟨(k + j.val) % 6400, Nat.mod_lt _ (by decide)⟩ d) := by
  subst ho
  have h1 : k + 2304 ≤ 6400 := hb 1
  refine congrArg x0 (funext fun a => Fin.ext ?_)
  match a with
  | ⟨0, _⟩ => rfl
  | ⟨1, _⟩ => show k + 1 * j.val = (k + j.val) % 6400; omega
  | ⟨2, _⟩ => show 0 + 1 * d.val = d.val; omega

/-- A block of keys, both of its parts, against the queries that start at row `n`, row for row. -/
def band (kh kl : Vec Ideal S1x256x768 .bf16) (qh ql : Vec Ideal S1x6400x768 .bf16) (n : ℕ) : EReal :=
  ∑ r : Fin 256, (((∑ d : Fin 768, kh (ix3 0 r d) * qh (ix3 0 ⟨(n + r.val) % 6400, Nat.mod_lt _ (by decide)⟩ d))
    + ∑ d : Fin 768, kl (ix3 0 r d) * qh (ix3 0 ⟨(n + r.val) % 6400, Nat.mod_lt _ (by decide)⟩ d))
    + ∑ d : Fin 768, kh (ix3 0 r d) * ql (ix3 0 ⟨(n + r.val) % 6400, Nat.mod_lt _ (by decide)⟩ d))

/-- The row of the queries that lane `τ` starts at, in block `i` of the keys. -/
def start (i τ : ℕ) : ℕ := if τ < 2048 then 256 * i + τ else (256 * i + 2048) % 4096 + (τ - 2048)

theorem add_band (kh kl : Vec Ideal S1x256x768 .bf16) (qh ql : Vec Ideal S1x6400x768 .bf16) (old : Vec Ideal S1x1x2048 .f32) (off : Fin 3 → ℕ) (k : ℕ) (ho : off = ![0, k, 0])
    (hb : ∀ a, off a + (![1, 2304, 768] : Fin 3 → ℕ) a ≤ S1x6400x768.size a) (x : S1x1x2048.Idx) :
    addRow (tree (scores kh kl (View.ld qh (Rect.unit (s := S1x6400x768) off ![1, 2304, 768] hb)) (View.ld ql (Rect.unit (s := S1x6400x768) off ![1, 2304, 768] hb)))) old x
      = old x + band kh kl qh ql (k + (x 2).val) * ((768⁻¹ : ℝ) : EReal) := by
  obtain ⟨z, z', j, rfl⟩ : ∃ (z z' : Fin 1) (j : Fin 2048), x = ix3 z z' j := ⟨x 0, x 1, x 2, by ext a; match a with | ⟨0, _⟩ => rfl | ⟨1, _⟩ => rfl | ⟨2, _⟩ => rfl⟩
  obtain rfl : z = 0 := Subsingleton.elim _ _
  obtain rfl : z' = 0 := Subsingleton.elim _ _
  rw [addRow_apply, tree_sum]
  refine congrArg (fun q => _ + q * _) (Finset.sum_congr rfl fun r _ => ?_)
  rw [scores_apply]
  have hj := j.isLt
  have hr := r.isLt
  have e : (⟨(k + ((j.val + r.val) % 2304)) % 6400, Nat.mod_lt _ (by decide)⟩ : Fin 6400) = ⟨(k + j.val + r.val) % 6400, Nat.mod_lt _ (by decide)⟩ :=
    Fin.ext (by dsimp only; omega)
  have hq : ∀ (q : Vec Ideal S1x6400x768 .bf16) (d : Fin 768), View.ld q (Rect.unit (s := S1x6400x768) off ![1, 2304, 768] hb) (ix3 0 ⟨(j.val + r.val) % 2304, Nat.mod_lt _ (by decide)⟩ d)
      = q (ix3 0 ⟨(k + j.val + r.val) % 6400, Nat.mod_lt _ (by decide)⟩ d) := fun q d => (lines_at q off k ho hb _ d).trans (congrArg (fun n => q (ix3 0 n d)) e)
  exact congrArg₂ (· + ·) (congrArg₂ (· + ·) (Finset.sum_congr rfl fun d _ => congrArg (kh (ix3 0 r d) * ·) (hq qh d)) (Finset.sum_congr rfl fun d _ => congrArg (kl (ix3 0 r d) * ·) (hq qh d)))
    (Finset.sum_congr rfl fun d _ => congrArg (kh (ix3 0 r d) * ·) (hq ql d))

variable (V : (c : Dev nD) → (b : Ref sig .tc) → Buf (Elt Ideal) ((c : Thread nD τ).loc b)) (c : Dev nD)

/-- What point `t` adds to a lane. -/
def term (t : Fin cfg1.N) (y : S1x1x4096.Idx) : EReal :=
  band (iblk1 V c 0 t) (iblk1 V c 1 t) (xblk1_2 V c t) (xblk1_3 V c t) (start (grid1.coords t 1).val (y 2).val) * ((768⁻¹ : ℝ) : EReal)

theorem start_low (i τ : ℕ) (x : ℕ) (h : τ = x) (hx : x < 2048) (hi : i < 16) : (256 * i + (0#32 : BitVec 32).toNat) % 4096 + x = start i τ := by
  unfold start
  rw [if_pos (by omega), show (0#32 : BitVec 32).toNat = 0 from rfl]
  omega

theorem start_high (i τ : ℕ) (x : ℕ) (h : τ = 2048 + x) : (256 * i + (2048#32 : BitVec 32).toNat) % 4096 + x = start i τ := by
  unfold start
  rw [if_neg (by omega), show (2048#32 : BitVec 32).toNat = 2048 from rfl]
  omega

theorem pay1_zero (y : S1x1x4096.Idx) : (k1_pay1 (F := Ideal)) y = (0 : EReal) := by
  pointwise [k1_pay1]

theorem stepB (t : Fin cfg1.N) (h : ¬ t.val % 16 = 0) (y : S1x1x4096.Idx) :
    (show EReal from outsAt1 V c t.val t.isLt y) = (show EReal from outsAt1 V c (t.val - 1) (Nat.lt_of_le_of_lt (Nat.sub_le _ _) t.isLt) y) + term V c t y := by
  rw [outsAt1_B V c t h]
  unfold out1_B_4 kernelRun1_B
  dsimp only
  frame_out
  rw [pay6_eq, pay11_eq]
  generalize outsAt1 V c (t.val - 1) _ = old
  have hi : (grid1.coords t 1).val < 16 := (grid1.coords t 1).isLt
  canon_tiles x hx
  case piece0 =>
    rw [add_band _ _ _ _ _ _ _ (k1_off1_eq _ 2048#32 (by decide))]
    unfold term
    rw [start_high _ (y 2).val (x 2).val hx2]
    refine congrArg₂ (· + ·) (congrArg old ?_) rfl
    ext a
    match a with
    | ⟨0, _⟩ => show 0 + 1 * (x 0).val = (y 0).val; omega
    | ⟨1, _⟩ => show 0 + 1 * (x 1).val = (y 1).val; omega
    | ⟨2, _⟩ => show 2048 + 1 * (x 2).val = (y 2).val; omega
  case piece1 =>
    rw [add_band _ _ _ _ _ _ _ (k1_off1_eq _ 0#32 (by decide))]
    unfold term
    rw [start_low _ (y 2).val (x 2).val hx2 x2_lt hi]
    refine congrArg₂ (· + ·) (congrArg old ?_) rfl
    ext a
    match a with
    | ⟨0, _⟩ => show 0 + 1 * (x 0).val = (y 0).val; omega
    | ⟨1, _⟩ => show 0 + 1 * (x 1).val = (y 1).val; omega
    | ⟨2, _⟩ => show 0 + 1 * (x 2).val = (y 2).val; omega

theorem stepA (t : Fin cfg1.N) (h : t.val % 16 = 0) (y : S1x1x4096.Idx) :
    (show EReal from outsAt1 V c t.val t.isLt y) = 0 + term V c t y := by
  rw [outsAt1_A V c t h]
  unfold out1_A_4 kernelRun1_A
  dsimp only
  frame_out
  rw [pay6_eq, pay11_eq]
  have hi : (grid1.coords t 1).val < 16 := (grid1.coords t 1).isLt
  refine View.canon_append_of_piecesOf (Val := Elt Ideal) (s := S1x1x4096) (e := .f32) (fun y => 0 + term V c t y) [_] [_, _] ⟨fun x => ?_, fun x => ?_, trivial⟩ y ?_
  · dsimp only at x ⊢
    change S1x1x2048.Idx at x
    refine (add_band _ _ _ _ _ _ _ (k1_off1_eq _ 2048#32 (by decide)) _ x).trans ?_
    unfold term
    rw [start_high _ _ (x 2).val (by show 2048 + 1 * (x 2).val = _; omega)]
    refine congrArg₂ (· + ·) ?_ rfl
    rw [View.readCov_skip _ _ _ _ _ (by decide), View.readCov_fill _ _ _ _ _ (by decide)]
    exact pay1_zero _
  · dsimp only at x ⊢
    change S1x1x2048.Idx at x
    refine (add_band _ _ _ _ _ _ _ (k1_off1_eq _ 0#32 (by decide)) _ x).trans ?_
    unfold term
    rw [start_low _ _ (x 2).val (by show 0 + 1 * (x 2).val = _; omega) (x 2).isLt hi]
    refine congrArg₂ (· + ·) ?_ rfl
    rw [View.readCov_fill _ _ _ _ _ (by decide)]
    exact pay1_zero _
  · have y0 : (y 0).val < 1 := (y 0).isLt
    have y1 : (y 1).val < 1 := (y 1).isLt
    have y2 : (y 2).val < 4096 := (y 2).isLt
    by_cases h2 : (y 2).val < 2048
    · refine ⟨_, List.mem_cons_of_mem _ (List.mem_singleton.mpr rfl), ?_⟩
      rw [Rect.mem_set_unit]
      intro a
      match a with
      | ⟨0, _⟩ => exact ⟨Nat.zero_le _, y0⟩
      | ⟨1, _⟩ => exact ⟨Nat.zero_le _, y1⟩
      | ⟨2, _⟩ => exact ⟨Nat.zero_le _, h2⟩
    · refine ⟨_, List.mem_cons_self, ?_⟩
      rw [Rect.mem_set_unit]
      intro a
      match a with
      | ⟨0, _⟩ => exact ⟨Nat.zero_le _, y0⟩
      | ⟨1, _⟩ => exact ⟨Nat.zero_le _, y1⟩
      | ⟨2, _⟩ => exact ⟨Nat.le_of_not_lt h2, y2⟩

theorem idx1 : ∀ t : Fin cfg1.N, win1_0.index t = ![t.val / 16, t.val % 16, 0] ∧ win1_1.index t = ![t.val / 16, t.val % 16, 0]
    ∧ win1_2.index t = ![t.val / 16, 0, 0] ∧ win1_3.index t = ![t.val / 16, 0, 0] ∧ win1_4.index t = ![t.val / 16, 0, 0] ∧ (grid1.coords t 1).val = t.val % 16 :=
  (by decide +kernel : ∀ t : Fin grid1.N, _)

/-- The long window 2 starts at row 0 of the batch's array. -/
theorem long2 (t : Fin cfg1.N) (n : Fin 6400) (d : Fin 768) (p : Fin 2) (h : t.val / 16 = p.val) :
    xblk1_2 V c t (ix3 0 n d) = V c main_v3 (ix3 p ⟨n.val, by omega⟩ d) := by
  have hm : (cfg1.win 2).moved (cfg1.grid.coords t) (ix3 0 n d) = true :=
    ((cfg1.win 2).moved_iff _ _).mpr fun a => by unfold Pipeline.Window.xsize; rw [clip1_2 t a]; exact ((ix3 0 n d : S1x6400x768.Idx) a).isLt
  unfold xblk1_2 Pipeline.Window.fill
  rw [dif_pos hm]
  unfold iblk1
  blk_simp
  have e := (idx1 t).2.2.1
  refine congrArg (V c main_v3) (funext fun a => Fin.ext ?_)
  match a with
  | ⟨0, _⟩ => show win1_2.index t 0 * 1 + 1 * 0 = p.val; rw [e]; show t.val / 16 * 1 + 1 * 0 = p.val; omega
  | ⟨1, _⟩ => show win1_2.index t 1 * 6400 + 1 * n.val = n.val; rw [e]; show 0 * 6400 + 1 * n.val = n.val; omega
  | ⟨2, _⟩ => show win1_2.index t 2 * 768 + 1 * d.val = d.val; rw [e]; show 0 * 768 + 1 * d.val = d.val; omega

/-- The long window 3 starts at row 0 of the batch's array. -/
theorem long3 (t : Fin cfg1.N) (n : Fin 6400) (d : Fin 768) (p : Fin 2) (h : t.val / 16 = p.val) :
    xblk1_3 V c t (ix3 0 n d) = V c main_v4 (ix3 p ⟨n.val, by omega⟩ d) := by
  have hm : (cfg1.win 3).moved (cfg1.grid.coords t) (ix3 0 n d) = true :=
    ((cfg1.win 3).moved_iff _ _).mpr fun a => by unfold Pipeline.Window.xsize; rw [clip1_3 t a]; exact ((ix3 0 n d : S1x6400x768.Idx) a).isLt
  unfold xblk1_3 Pipeline.Window.fill
  rw [dif_pos hm]
  unfold iblk1
  blk_simp
  have e := (idx1 t).2.2.2.1
  refine congrArg (V c main_v4) (funext fun a => Fin.ext ?_)
  match a with
  | ⟨0, _⟩ => show win1_3.index t 0 * 1 + 1 * 0 = p.val; rw [e]; show t.val / 16 * 1 + 1 * 0 = p.val; omega
  | ⟨1, _⟩ => show win1_3.index t 1 * 6400 + 1 * n.val = n.val; rw [e]; show 0 * 6400 + 1 * n.val = n.val; omega
  | ⟨2, _⟩ => show win1_3.index t 2 * 768 + 1 * d.val = d.val; rw [e]; show 0 * 768 + 1 * d.val = d.val; omega

theorem keys0 (t : Fin cfg1.N) (r : Fin 256) (d : Fin 768) (p : Fin 2) (h : t.val / 16 = p.val) (q : Fin 16) (h' : t.val % 16 = q.val) :
    iblk1 V c 0 t (ix3 0 r d) = V c main_v2_2 (ix3 p ⟨256 * q.val + r.val, by omega⟩ d) := by
  unfold iblk1
  blk_simp
  have e := (idx1 t).1
  refine congrArg (V c main_v2_2) (funext fun a => Fin.ext ?_)
  match a with
  | ⟨0, _⟩ => show win1_0.index t 0 * 1 + 1 * 0 = p.val; rw [e]; show t.val / 16 * 1 + 1 * 0 = p.val; omega
  | ⟨1, _⟩ => show win1_0.index t 1 * 256 + 1 * r.val = 256 * q.val + r.val; rw [e]; show t.val % 16 * 256 + 1 * r.val = 256 * q.val + r.val; omega
  | ⟨2, _⟩ => show win1_0.index t 2 * 768 + 1 * d.val = d.val; rw [e]; show 0 * 768 + 1 * d.val = d.val; omega

theorem keys1 (t : Fin cfg1.N) (r : Fin 256) (d : Fin 768) (p : Fin 2) (h : t.val / 16 = p.val) (q : Fin 16) (h' : t.val % 16 = q.val) :
    iblk1 V c 1 t (ix3 0 r d) = V c main_v2_3 (ix3 p ⟨256 * q.val + r.val, by omega⟩ d) := by
  unfold iblk1
  blk_simp
  have e := (idx1 t).2.1
  refine congrArg (V c main_v2_3) (funext fun a => Fin.ext ?_)
  match a with
  | ⟨0, _⟩ => show win1_1.index t 0 * 1 + 1 * 0 = p.val; rw [e]; show t.val / 16 * 1 + 1 * 0 = p.val; omega
  | ⟨1, _⟩ => show win1_1.index t 1 * 256 + 1 * r.val = 256 * q.val + r.val; rw [e]; show t.val % 16 * 256 + 1 * r.val = 256 * q.val + r.val; omega
  | ⟨2, _⟩ => show win1_1.index t 2 * 768 + 1 * d.val = d.val; rw [e]; show 0 * 768 + 1 * d.val = d.val; omega

variable (Qh Ql : Fin 2 → Fin 4096 → Fin 768 → EReal)
    (h3 : ∀ (p : Fin 2) (n : Fin 8192) (d : Fin 768), V c main_v3 (ix3 p n d) = Qh p ⟨n.val % 4096, Nat.mod_lt _ (by decide)⟩ d)
    (h4 : ∀ (p : Fin 2) (n : Fin 8192) (d : Fin 768), V c main_v4 (ix3 p n d) = Ql p ⟨n.val % 4096, Nat.mod_lt _ (by decide)⟩ d)

/-- Block `q` of the keys of batch `p` against the queries `τ` rows on. -/
def diagonal (p : Fin 2) (q : Fin 16) (τ : ℕ) : EReal :=
  ∑ r : Fin 256, (((∑ d : Fin 768, (show EReal from V c main_v2_2 (ix3 p ⟨256 * q.val + r.val, by omega⟩ d)) * Qh p ⟨(256 * q.val + r.val + τ) % 4096, Nat.mod_lt _ (by decide)⟩ d)
    + ∑ d : Fin 768, (show EReal from V c main_v2_3 (ix3 p ⟨256 * q.val + r.val, by omega⟩ d)) * Qh p ⟨(256 * q.val + r.val + τ) % 4096, Nat.mod_lt _ (by decide)⟩ d)
    + ∑ d : Fin 768, (show EReal from V c main_v2_2 (ix3 p ⟨256 * q.val + r.val, by omega⟩ d)) * Ql p ⟨(256 * q.val + r.val + τ) % 4096, Nat.mod_lt _ (by decide)⟩ d)

include h3 h4 in
theorem term_eq (t : Fin cfg1.N) (y : S1x1x4096.Idx) (p : Fin 2) (h : t.val / 16 = p.val) (q : Fin 16) (h' : t.val % 16 = q.val) :
    term V c t y = diagonal V c Qh Ql p q (y 2).val * ((768⁻¹ : ℝ) : EReal) := by
  unfold term band diagonal
  refine congrArg (· * ((768⁻¹ : ℝ) : EReal)) (Finset.sum_congr rfl fun r _ => ?_)
  have hy : (y 2).val < 4096 := (y 2).isLt
  have hr := r.isLt
  have hs : start (grid1.coords t 1).val (y 2).val + r.val < 6400 ∧ (start (grid1.coords t 1).val (y 2).val + r.val) % 4096 = (256 * q.val + r.val + (y 2).val) % 4096 := by
    rw [(idx1 t).2.2.2.2.2, h']
    unfold start
    split <;> omega
  have e : (⟨(start (grid1.coords t 1).val (y 2).val + r.val) % 6400 % 4096, Nat.mod_lt _ (by decide)⟩ : Fin 4096) = ⟨(256 * q.val + r.val + (y 2).val) % 4096, Nat.mod_lt _ (by decide)⟩ :=
    Fin.ext (by dsimp only; rw [Nat.mod_eq_of_lt hs.1]; exact hs.2)
  have q2 : ∀ d : Fin 768, xblk1_2 V c t (ix3 0 ⟨(start (grid1.coords t 1).val (y 2).val + r.val) % 6400, Nat.mod_lt _ (by decide)⟩ d) = Qh p ⟨(256 * q.val + r.val + (y 2).val) % 4096, Nat.mod_lt _ (by decide)⟩ d :=
    fun d => (long2 V c t _ d p h).trans ((h3 p _ d).trans (congrArg (fun n => Qh p n d) e))
  have q3 : ∀ d : Fin 768, xblk1_3 V c t (ix3 0 ⟨(start (grid1.coords t 1).val (y 2).val + r.val) % 6400, Nat.mod_lt _ (by decide)⟩ d) = Ql p ⟨(256 * q.val + r.val + (y 2).val) % 4096, Nat.mod_lt _ (by decide)⟩ d :=
    fun d => (long3 V c t _ d p h).trans ((h4 p _ d).trans (congrArg (fun n => Ql p n d) e))
  exact congrArg₂ (· + ·) (congrArg₂ (· + ·) (Finset.sum_congr rfl fun d _ => congrArg₂ (· * ·) (keys0 V c t r d p h q h') (q2 d)) (Finset.sum_congr rfl fun d _ => congrArg₂ (· * ·) (keys1 V c t r d p h q h') (q2 d)))
    (Finset.sum_congr rfl fun d _ => congrArg₂ (· * ·) (keys0 V c t r d p h q h') (q3 d))

include h3 h4 in
theorem arr1 : (dat1 V c).arrAt 4 cfg1.N = fun y : S2x1x4096.Idx => ∑ q : Fin 16, diagonal V c Qh Ql (y 0) q (y 2).val * ((768⁻¹ : ℝ) : EReal) := by
  refine (dat1 V c).arrAt_eq_of_covers 4 _ (by decide +kernel) fun t hf y => ?_
  blk_simp
  rw [after1_4, Pipeline.eq_sum_fin_of_reset_step_apply_of_flush (fun n h => outsAt1 V c n h) 16 (fun _ => (0 : EReal)) (fun t y => term V c t y)
    (fun t h j => stepA V c t h j) (fun t h j => stepB V c t h j) t ((flush1_4 t).mp hf) _, zero_add]
  refine Fin.sum_fin_congr fun s => ?_
  have ht : t.val < 32 := Nat.lt_of_lt_of_eq t.isLt N_1
  have hs := s.isLt
  have e := (idx1 t).2.2.2.2.1
  have y0 : (y 0).val < 1 := (y 0).isLt
  refine (term_eq V c Qh Ql h3 h4 _ y ((win1_4.blk t).view.emb y 0) ?_ s ?_).trans ?_
  · show (16 * (t.val / 16) + s.val) / 16 = win1_4.index t 0 * 1 + 1 * (y 0).val
    rw [e]
    show (16 * (t.val / 16) + s.val) / 16 = t.val / 16 * 1 + 1 * (y 0).val
    omega
  · show (16 * (t.val / 16) + s.val) % 16 = s.val
    omega
  · refine congrArg (fun n => diagonal V c Qh Ql ((win1_4.blk t).view.emb y 0) s n * ((768⁻¹ : ℝ) : EReal)) ?_
    rw [e]
    show (y 2).val = 0 * 4096 + (y 2).val
    omega

end Cert.KernelIdeal.Hand

end
-- ==== Proof.Value.Correlation.lean ====
/-
The mean correlation of a delay: sixteen sums of 256 rows, each scaled, against one sum of all the rows, divided.
-/
module

public import Idealize.ShloMosaic.Lib.Pointwise
public import Idealize.ShloMosaic.Lib.KernelVsHost
public import Idealize.ShloMosaic.Lib.IdealHost

@[expose] public section

set_option maxRecDepth 16384

noncomputable section

namespace Cert.Correlation

open Idealize.ShloMosaic

theorem bits_two : Ideal.ofBits .f32 0x40000000#32 = ((2 : ℝ) : EReal) := by
  simp [Ideal.ofBits, Ideal.ieee]; rw [← EReal.coe_mul]; norm_num

theorem bits_half : Ideal.ofBits .f32 0x3F000000#32 = ((2⁻¹ : ℝ) : EReal) := by
  simp [Ideal.ofBits, Ideal.ieee]; rw [← EReal.coe_mul]; norm_num

theorem bits_depth : Ideal.ofBits .f32 0x44400000#32 = ((768 : ℝ) : EReal) := by
  simp [Ideal.ofBits, Ideal.ieee]; rw [← EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (hy : y ≠ 0) : Ideal.div (x : EReal) (y : EReal) = ((x * y⁻¹ : ℝ) : EReal) := by
  rw [Ideal.div_coe hy, ← EReal.coe_mul, one_div]

/-- A sum of all the rows in sixteen parts. -/
theorem sum_parts (f : Fin 4096 → ℝ) : ∑ q : Fin 16, ∑ r : Fin 256, f ⟨256 * q.val + r.val, by omega⟩ = ∑ t, f t := by
  rw [← Fintype.sum_prod_type' (fun (q : Fin 16) (r : Fin 256) => f ⟨256 * q.val + r.val, by omega⟩)]
  refine Fintype.sum_equiv (finProdFinEquiv (m := 16) (n := 256)) _ (fun t : Fin (16 * 256) => f t) fun x => ?_
  refine congrArg f (Fin.ext ?_)
  show 256 * x.1.val + x.2.val = x.2.val + 256 * x.1.val
  exact Nat.add_comm _ _

variable (Q K : Fin 4096 → Fin 768 → ℝ) (l : ℕ)

/-- The mean correlation at a delay. -/
def corr : ℝ := (∑ t : Fin 4096, ∑ d : Fin 768, K t d * Q ⟨(t.val + l) % 4096, Nat.mod_lt _ (by decide)⟩ d) * 768⁻¹

theorem parts_eq :
    (∑ q : Fin 16, (∑ r : Fin 256, (((∑ d : Fin 768, (K ⟨256 * q.val + r.val, by omega⟩ d : EReal) * (Q ⟨(256 * q.val + r.val + l) % 4096, Nat.mod_lt _ (by decide)⟩ d : EReal))
      + ∑ d : Fin 768, (0 : EReal) * (Q ⟨(256 * q.val + r.val + l) % 4096, Nat.mod_lt _ (by decide)⟩ d : EReal))
      + ∑ d : Fin 768, (K ⟨256 * q.val + r.val, by omega⟩ d : EReal) * (0 : EReal))) * ((768⁻¹ : ℝ) : EReal)) = (corr Q K l : EReal) := by
  have e : ∀ q : Fin 16, (∑ r : Fin 256, (((∑ d : Fin 768, (K ⟨256 * q.val + r.val, by omega⟩ d : EReal) * (Q ⟨(256 * q.val + r.val + l) % 4096, Nat.mod_lt _ (by decide)⟩ d : EReal))
      + ∑ d : Fin 768, (0 : EReal) * (Q ⟨(256 * q.val + r.val + l) % 4096, Nat.mod_lt _ (by decide)⟩ d : EReal))
      + ∑ d : Fin 768, (K ⟨256 * q.val + r.val, by omega⟩ d : EReal) * (0 : EReal))) * ((768⁻¹ : ℝ) : EReal)
      = ((((∑ r : Fin 256, ∑ d : Fin 768, K ⟨256 * q.val + r.val, by omega⟩ d * Q ⟨(256 * q.val + r.val + l) % 4096, Nat.mod_lt _ (by decide)⟩ d) * 768⁻¹ : ℝ)) : EReal) := fun q => by
    rw [EReal.coe_mul, coe_sum]
    refine congrArg (· * ((768⁻¹ : ℝ) : EReal)) (Finset.sum_congr rfl fun r _ => ?_)
    simp only [zero_mul, mul_zero, Finset.sum_const_zero, add_zero]
    rw [coe_sum]
    exact Finset.sum_congr rfl fun d _ => (EReal.coe_mul _ _).symm
  rw [Finset.sum_congr rfl fun q _ => e q, ← coe_sum, ← Finset.sum_mul]
  unfold corr
  rw [sum_parts fun t => ∑ d : Fin 768, K t d * Q ⟨(t.val + l) % 4096, Nat.mod_lt _ (by decide)⟩ d]

theorem whole_eq :
    Ideal.div (∑ e : Fin 768, ∑ t : Fin 4096, (Q ⟨(l + t.val) % 4096, Nat.mod_lt _ (by decide)⟩ e : EReal) * (K t e : EReal)) (Ideal.ofBits .f32 0x44400000#32) = (corr Q K l : EReal) := by
  have e : (∑ e : Fin 768, ∑ t : Fin 4096, (Q ⟨(l + t.val) % 4096, Nat.mod_lt _ (by decide)⟩ e : EReal) * (K t e : EReal))
      = ((∑ e : Fin 768, ∑ t : Fin 4096, Q ⟨(l + t.val) % 4096, Nat.mod_lt _ (by decide)⟩ e * K t e : ℝ) : EReal) := by
    rw [coe_sum]
    refine Finset.sum_congr rfl fun e _ => ?_
    rw [coe_sum]
    exact Finset.sum_congr rfl fun d _ => (EReal.coe_mul _ _).symm
  rw [e, bits_depth, div_real _ _ (by norm_num)]
  unfold corr
  refine congrArg (fun x : ℝ => ((x * 768⁻¹ : ℝ) : EReal)) (Finset.sum_comm.trans (Finset.sum_congr rfl fun t _ => Finset.sum_congr rfl fun d _ => ?_))
  rw [mul_comm]
  refine congrArg (K t d * ·) (congrArg (fun k => Q k d) (Fin.ext ?_))
  show (l + t.val) % 4096 = (t.val + l) % 4096
  rw [Nat.add_comm]

/-- The mean of two, as a product and as a quotient. -/
theorem mean_eq (a b : ℝ) : ((a : EReal) + (b : EReal)) * Ideal.ofBits .f32 0x3F000000#32 = Ideal.div ((a : EReal) + (b : EReal)) (Ideal.ofBits .f32 0x40000000#32) := by
  rw [bits_half, bits_two, ← EReal.coe_add, div_real _ _ (by norm_num), EReal.coe_mul]

theorem mean_ne (a b : ℝ) : ((a : EReal) + (b : EReal)) * Ideal.ofBits .f32 0x3F000000#32 ≠ ⊥ := by
  rw [bits_half, ← EReal.coe_add, ← EReal.coe_mul]
  exact EReal.coe_ne_bot _

end Cert.Correlation

end
-- ==== Proof.Value.Mean.lean ====
/-
What the first two calls leave, when the arguments are real numbers: the mean correlations.
-/
module

public import proofs.«01_k».proof.Proof.Value.Host
public import proofs.«01_k».proof.Proof.Value.Region1
public import proofs.«01_k».proof.Proof.Value.Correlation

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- An array whose entries are the real numbers `X`. -/
def Reals {s : Shape} (x : FVec Ideal s .f32) (X : s.Idx → ℝ) : Prop := ∀ i, (x i : EReal) = X i

/-- A projection of real numbers. -/
def line (X : S2x4096x768.Idx → ℝ) (W : S768x768.Idx → ℝ) (b : S768.Idx → ℝ) (p : Fin 2) (l : Fin 4096) (e : Fin 768) : ℝ :=
  (∑ d : Fin 768, X (ix3 p l d) * W (ix2 e d)) + b (ix1 e)

theorem line_coe (X : S2x4096x768.Idx → ℝ) (W : S768x768.Idx → ℝ) (b : S768.Idx → ℝ) (p : Fin 2) (l : Fin 4096) (e : Fin 768) :
    (∑ d : Fin 768, (X (ix3 p l d) : EReal) * (W (ix2 e d) : EReal)) + (b (ix1 e) : EReal) = (line X W b p l e : EReal) := by
  unfold line
  rw [EReal.coe_add, Correlation.coe_sum]
  simp only [EReal.coe_mul]

theorem lin_real (x : FVec Ideal S2x4096x768 .f32) (w : FVec Ideal S768x768 .f32) (b' : FVec Ideal S1x768 .f32)
    (X : S2x4096x768.Idx → ℝ) (W : S768x768.Idx → ℝ) (b : S768.Idx → ℝ) (hx : ∀ i, (x i : EReal) = X i) (hw : ∀ i, (w i : EReal) = W i) (hb : ∀ e : Fin 768, (b' (ix2 0 e) : EReal) = b (ix1 e))
    (p : Fin 2) (l : Fin 4096) (e : Fin 768) : lin x w b' p l e = (line X W b p l e : EReal) := by
  rw [← line_coe]
  unfold lin
  rw [hb]
  simp only [hx, hw]

variable (m : (ℓ : Loc nD τ sig) → Buf (Elt Ideal) ℓ) (ρ : Dev nD → PrngReg) (c : Dev nD)
    (X T : S2x4096x768.Idx → ℝ) (Wq Wk : S768x768.Idx → ℝ) (bq bk : S768.Idx → ℝ)
    (h0 : Reals (s := S2x4096x768) (m ((c.tc : Thread nD τ).loc main_arg0)) X) (h1 : Reals (s := S2x4096x768) (m ((c.tc : Thread nD τ).loc main_arg1)) T)
    (h2 : Reals (s := S768x768) (m ((c.tc : Thread nD τ).loc main_arg2)) Wq) (h3 : Reals (s := S768) (m ((c.tc : Thread nD τ).loc main_arg3)) bq)
    (h4 : Reals (s := S768x768) (m ((c.tc : Thread nD τ).loc main_arg4)) Wk) (h5 : Reals (s := S768) (m ((c.tc : Thread nD τ).loc main_arg5)) bk)

include h0 h2 h3 in
theorem query_real (p : Fin 2) (l : Fin 4096) (e : Fin 768) : lin (V1 m ρ c main_arg0) (V1 m ρ c main_arg2) (V1 m ρ c main_v0) p l e = (line X Wq bq p l e : EReal) := by
  refine lin_real _ _ _ X Wq bq (fun i => ?_) (fun i => ?_) (fun e => ?_) p l e
  · exact (congrFun (W1_args m ρ c main_arg0 (by decide)) i).trans (h0 i)
  · exact (congrFun (W1_args m ρ c main_arg2 (by decide)) i).trans (h2 i)
  · exact (congrFun (W1_v0 m ρ c) (ix2 0 e)).trans ((bias_apply _ e).trans (h3 (ix1 e)))

include h1 h4 h5 in
theorem key_real (p : Fin 2) (l : Fin 4096) (e : Fin 768) : lin (V1 m ρ c main_arg1) (V1 m ρ c main_arg4) (V1 m ρ c main_v1) p l e = (line T Wk bk p l e : EReal) := by
  refine lin_real _ _ _ T Wk bk (fun i => ?_) (fun i => ?_) (fun e => ?_) p l e
  · exact (congrFun (W1_args m ρ c main_arg1 (by decide)) i).trans (h1 i)
  · exact (congrFun (W1_args m ρ c main_arg4 (by decide)) i).trans (h4 i)
  · exact (congrFun (W1_v1 m ρ c) (ix2 0 e)).trans ((bias_apply _ e).trans (h5 (ix1 e)))

theorem real_sub (r : ℝ) : (r : EReal) - (r : EReal) = 0 := by
  rw [← EReal.coe_sub, sub_self, EReal.coe_zero]

include h1 h4 h5 in
theorem keys_high (p : Fin 2) (l : Fin 4096) (d : Fin 768) : (show EReal from V3 m ρ c main_v2_2 (ix3 p l d)) = (line T Wk bk p l d : EReal) :=
  (congrFun (((W3_of m ρ c main_v2_2 (by decide)).trans (W2_arr m ρ c 8)).trans (arr0_kh (V1 m ρ) c)) (ix3 p l d)).trans (key_real m ρ c T Wk bk h1 h4 h5 p l d)

include h1 h4 h5 in
theorem keys_low (p : Fin 2) (l : Fin 4096) (d : Fin 768) : (show EReal from V3 m ρ c main_v2_3 (ix3 p l d)) = 0 := by
  refine (congrFun (((W3_of m ρ c main_v2_3 (by decide)).trans (W2_arr m ρ c 9)).trans (arr0_kl (V1 m ρ) c)) (ix3 p l d)).trans ?_
  show lin _ _ _ p l d - lin _ _ _ p l d = (0 : EReal)
  rw [key_real m ρ c T Wk bk h1 h4 h5 p l d, real_sub]

include h0 h2 h3 in
theorem queries_high (p : Fin 2) (n : Fin 8192) (d : Fin 768) : (show EReal from V3 m ρ c main_v3 (ix3 p n d)) = (line X Wq bq p ⟨n.val % 4096, Nat.mod_lt _ (by decide)⟩ d : EReal) := by
  refine (congrFun (W3_v3 m ρ c) (ix3 p n d)).trans ((twice_apply _ p n d).trans ?_)
  exact (congrFun ((W2_arr m ρ c 6).trans (arr0_qh (V1 m ρ) c)) _).trans (query_real m ρ c X Wq bq h0 h2 h3 p _ d)

include h0 h2 h3 in
theorem queries_low (p : Fin 2) (n : Fin 8192) (d : Fin 768) : (show EReal from V3 m ρ c main_v4 (ix3 p n d)) = 0 := by
  refine (congrFun (W3_v4 m ρ c) (ix3 p n d)).trans ((twice_apply _ p n d).trans ?_)
  refine (congrFun ((W2_arr m ρ c 7).trans (arr0_ql (V1 m ρ) c)) _).trans ?_
  show lin _ _ _ p ⟨n.val % 4096, _⟩ d - lin _ _ _ p ⟨n.val % 4096, _⟩ d = (0 : EReal)
  rw [query_real m ρ c X Wq bq h0 h2 h3 p _ d, real_sub]

include h0 h1 h2 h3 h4 h5 in
/-- The mean correlations. -/
theorem corr_real (p : Fin 2) (l : Fin 4096) : (show EReal from V4 m ρ c main_v6 (ix3 p 0 l)) = (Correlation.corr (line X Wq bq p) (line T Wk bk p) l.val : EReal) := by
  refine (congrFun ((W4_arr m ρ c 4).trans (arr1 (V3 m ρ) c (fun p l d => (line X Wq bq p l d : EReal)) (fun _ _ _ => 0)
    (queries_high m ρ c X Wq bq h0 h2 h3) (queries_low m ρ c X Wq bq h0 h2 h3))) (ix3 p 0 l)).trans ?_
  show (∑ q : Fin 16, diagonal (V3 m ρ) c (fun p l d => (line X Wq bq p l d : EReal)) (fun _ _ _ => 0) p q l.val * ((768⁻¹ : ℝ) : EReal)) = _
  refine Eq.trans ?_ (Correlation.parts_eq (line X Wq bq p) (line T Wk bk p) l.val)
  refine Finset.sum_congr rfl fun q _ => congrArg (· * ((768⁻¹ : ℝ) : EReal)) ?_
  unfold diagonal
  refine Finset.sum_congr rfl fun r _ => congrArg₂ (· + ·) (congrArg₂ (· + ·) (Finset.sum_congr rfl fun d _ => ?_) (Finset.sum_congr rfl fun d _ => ?_)) (Finset.sum_congr rfl fun d _ => ?_)
  · exact congrArg (· * _) (keys_high m ρ c T Wk bk h1 h4 h5 p _ d)
  · exact congrArg (· * _) (keys_low m ρ c T Wk bk h1 h4 h5 p _ d)
  · exact congrArg (· * _) (keys_high m ρ c T Wk bk h1 h4 h5 p _ d)

end Cert.KernelIdeal.Hand

end
-- ==== Proof.Value.Region2.lean ====
/-
The arrays that the third call leaves: the weights, and the first and the last of the words.
-/
module

public import proofs.«01_k».proof.Proof.KernelIdeal.Rounds
public import Idealize.ShloMosaic.Lib.Pipeline.ValueKit
public import Idealize.ShloMosaic.Lib.Pointwise
public import Idealize.ShloMosaic.Lib.KernelVsHost
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The block that the call reads is the whole array. -/
theorem whole2 (t : Fin cfg2.N) : iblk2 V c 0 t = V c main_v6 := by
  funext j
  unfold iblk2
  refine congrArg (V c main_v6) (funext fun a => Fin.ext ?_)
  have h : win2_0.index t a = 0 := by fin_cases a <;> rfl
  show win2_0.index t a * _ + 1 * (j a).val = (j a).val
  rw [h, zero_mul, zero_add, one_mul]

theorem arr2_2 (o : Vec Ideal S1x8 .i32) : (dat2 V o c).arrAt 2 cfg2.N = weights (V c main_v6) := by
  refine (dat2 V o c).arrAt_eq_of_after_last 2 ⟨0, by decide⟩ (by decide +kernel) (weights (V c main_v6)) (fun j => ?_)
  have e : (dat2 V o c).after 2 ⟨0, by decide⟩ = weights (V c main_v6) := by
    rw [after2_2, outAt2_2_eq, whole2]
  rw [e]
  rfl

theorem word2_first (t : Fin cfg2.N) (X : Vec Ideal S1x8 .i32) (h : Rl2 V c 1 t X) : X (ix2 0 0) = wordOf (mark (round0 (V c main_v6))) := by
  obtain ⟨f, rfl⟩ := h
  rw [words2_eq, whole2]
  rw [View.read_writes_cons_unit _ _ _ _ _ _ rfl, View.read_writes_cons_unit _ _ _ _ _ _ rfl, View.read_writes_cons_unit _ _ _ _ _ _ rfl,
    View.read_writes_cons_unit _ _ _ _ _ _ rfl, View.read_writes_cons_unit _ _ _ _ _ _ rfl]
  rw [dif_neg (by decide), dif_neg (by decide), dif_neg (by decide), dif_neg (by decide), dif_pos (by decide)]

theorem word2_last (t : Fin cfg2.N) (X : Vec Ideal S1x8 .i32) (h : Rl2 V c 1 t X) : X (ix2 0 4) = wordOf (mark (round4 (V c main_v6))) := by
  obtain ⟨f, rfl⟩ := h
  rw [words2_eq, whole2]
  rw [View.read_writes_cons_unit _ _ _ _ _ _ rfl]
  rw [dif_pos (by decide)]

end Cert.KernelIdeal.Hand

end
-- ==== Proof.Value.Region3.lean ====
/-
What a block of the fourth call holds.
-/
module

public import proofs.«01_k».proof.Proof.KernelIdeal.Region3
public import Idealize.ShloMosaic.Lib.Pipeline.ValueKit
public import Idealize.ShloMosaic.Lib.Pointwise
public import Idealize.ShloMosaic.Lib.KernelVsHost
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The remainder of a delay by eight, as the kernel computes it. -/
def residue (v : BitVec 32) : BitVec 32 :=
  Scalar.select
        (Scalar.andi
          (Scalar.xori (Scalar.cmpi CmpIPredicate.slt (Scalar.remsi v 8#32) 0#32) 0#1)
          (Scalar.cmpi CmpIPredicate.ne (Scalar.remsi v 8#32) 0#32))
        (Scalar.addi (Scalar.remsi v 8#32) 8#32)
        (Scalar.remsi v 8#32)

theorem residue_fin : ∀ v : Fin 4096, Scalar.remsi (Scalar.subi 264#32 (residue (BitVec.ofNat 32 v.val))) 264#32 = BitVec.ofNat 32 ((264 - v.val % 8) % 264) := by
  decide +kernel

theorem residue_eq (v : BitVec 32) (h : v.toNat < 4096) : Scalar.remsi (Scalar.subi 264#32 (residue v)) 264#32 = BitVec.ofNat 32 ((264 - v.toNat % 8) % 264) := by
  have e : BitVec.ofNat 32 v.toNat = v := by simp
  have := residue_fin ⟨v.toNat, h⟩
  dsimp only at this
  rwa [e] at this

theorem pay3_at (v : BitVec 32) (h : v.toNat < 4096) (W : Vec Ideal S768x768 .f32) (rows : Vec Ideal S1x264x768 .bf16) (bias : Vec Ideal S1x768 .f32) (wt : Vec Ideal S1x1x1 .f32)
    (z : Fin 1) (l : Fin 256) (e : Fin 768) :
    k3_pay3 (k3_pay2 W) (residue v) rows bias wt (ix3 z l e)
      = ((∑ d : Fin 768, rows (ix3 0 ⟨l.val + v.toNat % 8, by omega⟩ d) * W (ix2 e d)) + bias (ix2 0 e)) * wt (ix3 0 0 0) := by
  unfold k3_pay3
  dsimp only
  rw [residue_eq v h]
  pointwise [k3_pay2]
  refine congrArg (fun k : Fin 264 => ((∑ d : Fin 768, rows (ix3 0 k d) * W (ix2 e d)) + bias (ix2 0 e)) * wt (ix3 0 0 0)) (Fin.ext ?_)
  have hm : (BitVec.ofNat 32 ((264 - v.toNat % 8) % 264)).toNat = (264 - v.toNat % 8) % 264 := by
    rw [BitVec.toNat_ofNat]; omega
  rw [hm]
  dsimp only
  omega

theorem pay1_eq (v : BitVec 32) (W : FVec Ideal S768x768 .bf16) (rows : Vec Ideal S1x264x768 .bf16) (bias : Vec Ideal S1x768 .f32) (wt : Vec Ideal S1x1x1 .f32) :
    k3_pay1 v W rows bias wt = k3_pay3 W (residue v) rows bias wt := rfl

theorem rows_at (x0 : Vec Ideal S1x8192x768 .bf16) (off : Fin 3 → ℕ) (k : ℕ) (ho : off = ![0, k, 0])
    (hb : ∀ a, off a + (![1, 264, 768] : Fin 3 → ℕ) a ≤ S1x8192x768.size a) (j : Fin 264) (d : Fin 768) (hk : k + j.val < 8192) :
    View.ld x0 (Rect.unit (s := S1x8192x768) off ![1, 264, 768] hb) (ix3 0 j d) = x0 (ix3 0 ⟨k + j.val, hk⟩ d) := by
  subst ho
  refine congrArg x0 (funext fun a => Fin.ext ?_)
  match a with
  | ⟨0, _⟩ => rfl
  | ⟨1, _⟩ => show k + 1 * j.val = k + j.val; omega
  | ⟨2, _⟩ => show 0 + 1 * d.val = d.val; omega

theorem block3_close (x0 : Vec Ideal S1x8192x768 .bf16) (x2 : Vec Ideal S1x1x128 .f32) (x3 : Vec Ideal S768x768 .f32) (x4 : Vec Ideal S1x768 .f32) (w : Vec Ideal S1x1x1 .f32)
    (i : grid3.Coords) (n : ℕ) (off : Fin 3 → ℕ) (ho : off = ![0, 256 * (i 1).val + 8 * (n / 8), 0])
    (hb : ∀ a, off a + (![1, 264, 768] : Fin 3 → ℕ) a ≤ S1x8192x768.size a) (z : Fin 1) (l : Fin 256) (e : Fin 768) (q : Fin 128) (n' : ℕ) (hl : l.val + n' % 8 < 264) (hn : n' = n)
    (hw : w (ix3 0 0 0) = x2 (ix3 0 0 q)) (hlt : 256 * (i 1).val + l.val + n < 8192) :
    ((∑ d : Fin 768, View.ld x0 (Rect.unit (s := S1x8192x768) off ![1, 264, 768] hb) (ix3 0 ⟨l.val + n' % 8, hl⟩ d) * x3 (ix2 e d)) + x4 (ix2 0 e)) * w (ix3 0 0 0)
      = ((∑ d : Fin 768, x0 (ix3 0 ⟨256 * (i 1).val + l.val + n, hlt⟩ d) * x3 (ix2 e d)) + x4 (ix2 0 e)) * x2 (ix3 0 0 q) := by
  subst hn
  rw [hw]
  refine congrArg (fun s => (s + _) * _) (Finset.sum_congr rfl fun d _ => congrArg (fun s => s * _) ?_)
  rw [rows_at x0 off _ ho hb _ d (by dsimp only; omega)]
  exact congrArg (fun k => x0 (ix3 0 k d)) (Fin.ext (by dsimp only; omega))

section
variable (c : Dev nD) (i : grid3.Coords) (a2 : Memref sig .tc .vmem S1x8192x768 .bf16) (h2 : a2.IsWhole) (a3 : Memref sig .tc .smem S1x8 .i32) (h3 : a3.IsWhole) (a4 : Memref sig .tc .vmem S1x1x128 .f32) (h4 : a4.IsWhole) (a5 : Memref sig .tc .vmem S768x768 .f32) (h5 : a5.IsWhole) (a6 : Memref sig .tc .vmem S1x768 .f32) (h6 : a6.IsWhole) (a7 : Memref sig .tc .vmem S1x256x768 .f32) (h7 : a7.IsWhole) (a8 : Memref sig .tc .vmem S1x256x768 .f32) (h8 : a8.IsWhole)
    (x0 : Vec Ideal S1x8192x768 .bf16) (x1 : Vec Ideal S1x8 .i32) (x2 : Vec Ideal S1x1x128 .f32) (x3 : Vec Ideal S768x768 .f32) (x4 : Vec Ideal S1x768 .f32) (hi : InRange x1) (z : Fin 1) (l : Fin 256) (e : Fin 768)
    (n : ℕ) (hn : n < 4096)

theorem block3_first (hx : (x1 (ix2 0 0)).toNat = n) :
    out3_A_5 c i a2 h2 a3 h3 a4 h4 a5 h5 a6 h6 a7 h7 a8 h8 x0 x1 x2 x3 x4 hi (ix3 z l e)
      = ((∑ d : Fin 768, x0 (ix3 0 ⟨256 * (i 1).val + l.val + n, by have := (i 1).isLt; change _ < 16 at this; omega⟩ d) * x3 (ix2 e d)) + x4 (ix2 0 e)) * x2 (ix3 0 0 0) := by
  unfold out3_A_5 kernelRun3_A
  dsimp only
  frame_out
  have hv : View.ld x1 (Rect.unit ![0, 0] ![1, 1] inb_S1x8_S1x1_0_0) (Shape.Idx.first (by decide)) = x1 (ix2 0 0) := by
    pointwise
  have hw : View.ld (View.read (Elt Idealize.ShloMosaic.Ideal) a3.view (h3.unread x1)) (Rect.unit ![0, 0] ![1, 1] inb_S1x8_S1x1_0_0) (Shape.Idx.first (by decide)) = x1 (ix2 0 0) := by
    rw [h3.read_unread]; exact hv
  refine (congrFun (congrArg (fun v => k3_pay3 (k3_pay2 x3) (residue v) _ x4 _) hv) _).trans ?_
  rw [pay3_at _ (by rw [hx]; exact hn)]
  have ho : k3_off1 i (View.ld (View.read (Elt Idealize.ShloMosaic.Ideal) a3.view (h3.unread x1)) (Rect.unit ![0, 0] ![1, 1] inb_S1x8_S1x1_0_0) (Shape.Idx.first (by decide)))
      = ![0, 256 * (i 1).val + 8 * (n / 8), 0] := by
    rw [hw, k3_off1_eq i _ (by rw [hx]; exact hn), hx]
  refine block3_close x0 x2 x3 x4 _ i n _ ho _ z l e 0 _ _ hx ?_ _
  pointwise

theorem block3_last (hx : (x1 (ix2 0 4)).toNat = n) :
    out3_A_6 c i a2 h2 a3 h3 a4 h4 a5 h5 a6 h6 a7 h7 a8 h8 x0 x1 x2 x3 x4 hi (ix3 z l e)
      = ((∑ d : Fin 768, x0 (ix3 0 ⟨256 * (i 1).val + l.val + n, by have := (i 1).isLt; change _ < 16 at this; omega⟩ d) * x3 (ix2 e d)) + x4 (ix2 0 e)) * x2 (ix3 0 0 4) := by
  unfold out3_A_6 kernelRun3_A
  dsimp only
  frame_out
  have hv : View.ld x1 (Rect.unit ![0, 4] ![1, 1] inb_S1x8_S1x1_0_4) (Shape.Idx.first (by decide)) = x1 (ix2 0 4) := by
    pointwise
  have hw : View.ld (View.read (Elt Idealize.ShloMosaic.Ideal) a3.view (h3.unread x1)) (Rect.unit ![0, 4] ![1, 1] inb_S1x8_S1x1_0_4) (Shape.Idx.first (by decide)) = x1 (ix2 0 4) := by
    rw [h3.read_unread]; exact hv
  rw [pay1_eq]
  refine (congrFun (congrArg (fun v => k3_pay3 (k3_pay2 x3) (residue v) _ x4 _) hv) _).trans ?_
  rw [pay3_at _ (by rw [hx]; exact hn)]
  have ho : k3_off2 i (View.ld (View.read (Elt Idealize.ShloMosaic.Ideal) a3.view (h3.unread x1)) (Rect.unit ![0, 4] ![1, 1] inb_S1x8_S1x1_0_4) (Shape.Idx.first (by decide)))
      = ![0, 256 * (i 1).val + 8 * (n / 8), 0] := by
    rw [hw, k3_off2_eq i _ (by rw [hx]; exact hn), hx]
  refine block3_close x0 x2 x3 x4 _ i n _ ho _ z l e 4 _ _ hx ?_ _
  pointwise
end

end Cert.KernelIdeal.Hand

end
-- ==== Proof.Value.Region3Array.lean ====
/-
The arrays that the fourth call leaves.
-/
module

public import proofs.«01_k».proof.Proof.Value.Region3

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The values rolled by `n` rows and projected, times the weight in lane `q`. -/
def rolled (n : ℕ) (hn : n < 4096) (q : Fin 128) (X : FVec Ideal S2x8192x768 .bf16) (w : FVec Ideal S2x1x128 .f32) (W : FVec Ideal S768x768 .f32) (b : FVec Ideal S1x768 .f32) : FVec Ideal S2x4096x768 .f32 :=
  fun y => ((∑ d : Fin 768, X (ix3 (y 0) ⟨(y 1).val + n, by have := (y 1).isLt; change _ < 4096 at this; omega⟩ d) * W (ix2 (y 2) d)) + b (ix2 0 (y 2))) * w (ix3 (y 0) 0 q)

theorem idx3 : ∀ t : Fin cfg3.N, win3_0.index t = ![t.val / 16, 0, 0] ∧ win3_1.index t = ![0, 0] ∧ win3_2.index t = ![t.val / 16, 0, 0]
    ∧ win3_3.index t = ![0, 0] ∧ win3_4.index t = ![0, 0] ∧ win3_5.index t = ![t.val / 16, t.val % 16, 0] ∧ win3_6.index t = ![t.val / 16, t.val % 16, 0]
    ∧ (grid3.coords t 1).val = t.val % 16 :=
  (by decide +kernel : ∀ t : Fin grid3.N, _)

variable (V : (c : Dev nD) → (b : Ref sig .tc) → Buf (Elt Ideal) ((c : Thread nD τ).loc b)) (hV : ∀ c t, InRange (iblk3 V c 1 t)) (c : Dev nD) (n : ℕ) (hn : n < 4096)

theorem arr3_first (ho : ∀ t, (iblk3 V c 1 t (ix2 0 0) : BitVec 32).toNat = n) :
    (dat3 V hV c).arrAt 5 cfg3.N = rolled n hn 0 (V c main_v5) (V c main_v7_1) (V c main_arg6) (V c main_v8) := by
  refine (dat3 V hV c).arrAt_eq_of_covers 5 _ (by decide +kernel) fun t hf y => ?_
  blk_simp
  rw [after3_5]
  unfold outsAt3
  dsimp only
  obtain ⟨z, l, e, rfl⟩ : ∃ (z : Fin 1) (l : Fin 256) (e : Fin 768), y = ix3 z l e := ⟨y 0, y 1, y 2, by ext a; match a with | ⟨0, _⟩ => rfl | ⟨1, _⟩ => rfl | ⟨2, _⟩ => rfl⟩
  rw [block3_first (hn := hn) (hx := ho t)]
  unfold rolled
  blk_point [iblk3, idx3 t]

theorem arr3_last (ho : ∀ t, (iblk3 V c 1 t (ix2 0 4) : BitVec 32).toNat = n) :
    (dat3 V hV c).arrAt 6 cfg3.N = rolled n hn 4 (V c main_v5) (V c main_v7_1) (V c main_arg6) (V c main_v8) := by
  refine (dat3 V hV c).arrAt_eq_of_covers 6 _ (by decide +kernel) fun t hf y => ?_
  blk_simp
  rw [after3_6]
  unfold outsAt3
  dsimp only
  obtain ⟨z, l, e, rfl⟩ : ∃ (z : Fin 1) (l : Fin 256) (e : Fin 768), y = ix3 z l e := ⟨y 0, y 1, y 2, by ext a; match a with | ⟨0, _⟩ => rfl | ⟨1, _⟩ => rfl | ⟨2, _⟩ => rfl⟩
  rw [block3_last (hn := hn) (hx := ho t)]
  unfold rolled
  blk_point [iblk3, idx3 t]

end Cert.KernelIdeal.Hand

end
-- ==== Proof.Value.Picks.lean ====
/-
Five positions of a row, in the order of their values, the first of equals first.
-/
module

public import Idealize.ShloMosaic.Lib.SortPrefix
public import Idealize.ShloMosaic.Lib.SortFacts
public import Idealize.ShloMosaic.Lib.KernelVsHost
public import Idealize.ShloMosaic.Lib.Pointwise

@[expose] public section

set_option maxRecDepth 16384

noncomputable section

namespace Cert.Picks

open Idealize.ShloMosaic Idealize.ShloMosaic.TcCoe

/-- Five positions, each the first of the greatest entries that the ones before it left. -/
structure Picks (B : Fin 4096 → EReal) (σ : Fin 5 → Fin 4096) : Prop where
  inj : Function.Injective σ
  best : ∀ i p, (∀ j, j < i → σ j ≠ p) → B p ≤ B (σ i) ∧ (p < σ i → B p < B (σ i))

/-- Greater first, then the lower position. -/
def ahead {n : ℕ} (B : Fin n → EReal) (k k' : Fin n) : Bool := (decide (B k' < B k)) || (decide (B k = B k') && decide (k < k'))

theorem ahead_total {n : ℕ} (B : Fin n → EReal) : StrictTotalBefore (ahead B) :=
  StrictTotalBefore.of_key_then_position (fun a b : EReal => decide (b < a)) B (fun a => decide_eq_false (lt_irrefl a))
    (fun a b c h h' => decide_eq_true ((of_decide_eq_true h').trans (of_decide_eq_true h)))
    (fun a b => by rcases lt_trichotomy b a with h | h | h
                   · exact Or.inl (decide_eq_true h)
                   · exact Or.inr (Or.inl h.symm)
                   · exact Or.inr (Or.inr (decide_eq_true h)))

/-- On positions in order a stable sort by the greater value is the sort by value and position. -/
theorem stable_ahead {n : ℕ} (B : Fin n → EReal) (R : Fin n → Fin n → Bool) (hR : ∀ k k', R k k' = decide (B k' < B k)) (l : List (Fin n)) (hl : l.Pairwise (· < ·)) :
    stableSort R l = stableSort (ahead B) l := by
  induction l with
  | nil => rfl
  | cons a l ih =>
    rw [List.pairwise_cons] at hl
    unfold stableSort
    rw [ih hl.2]
    refine insertBefore_congr _ _ _ _ fun b hb => ?_
    have hb' : a < b := hl.1 b ((perm_stableSort _ l).mem_iff.mp hb)
    rw [hR]
    unfold ahead
    rw [decide_eq_false (p := b < a) (not_lt_of_gt hb'), Bool.and_false, Bool.or_false]

theorem sortedFrom_of_eq {n : ℕ} (R R' : Fin n → Fin n → Bool) (h : sortPositions n R = sortPositions n R') : sortedFrom R = sortedFrom R' := by
  funext k
  unfold sortedFrom
  rw [List.get_of_eq h]
  rfl

theorem sortedFrom_stable {n : ℕ} (B : Fin n → EReal) (R : Fin n → Fin n → Bool) (hR : ∀ k k', R k k' = decide (B k' < B k)) : sortedFrom R = sortedFrom (ahead B) :=
  sortedFrom_of_eq _ _ (stable_ahead B R hR _ (List.pairwise_lt_finRange n))

theorem Picks.prior {B : Fin 4096 → EReal} {σ : Fin 5 → Fin 4096} (h : Picks B σ) (i : Fin 5) (p : Fin 4096) (hp : ∀ j, j < i → σ j ≠ p) : ahead B p (σ i) = false := by
  obtain ⟨h1, h2⟩ := h.best i p hp
  unfold ahead
  rw [decide_eq_false (p := B (σ i) < B p) (not_lt_of_ge h1), Bool.false_or, Bool.and_eq_false_iff]
  by_cases hlt : p < σ i
  · exact Or.inl (decide_eq_false (h2 hlt).ne)
  · exact Or.inr (decide_eq_false hlt)

theorem Picks.sorted {B : Fin 4096 → EReal} {σ : Fin 5 → Fin 4096} (h : Picks B σ) (R : Fin 4096 → Fin 4096 → Bool) (hR : ∀ k k', R k k' = decide (B k' < B k)) (i : Fin 5) (hk : 5 ≤ 4096) :
    sortedFrom R (i.castLE hk) = σ i :=
  (congrFun (sortedFrom_stable B R hR) _).trans ((ahead_total B).sortedFrom_eq_of_prefix hk σ h.inj
    (fun i j hij => h.prior i _ fun k hk e => absurd (h.inj e) (by intro e; subst e; exact absurd hk (not_lt_of_gt hij)))
    (fun i p hp => h.prior i p fun j _ => hp j) i)

/-- The positions of the `k` greatest of a row. -/
theorem topK_rank1 {n k : ℕ} {α : Type} (gt : α → α → BitVec 1) (x : (⟨1, ![n]⟩ : Shape).Idx → α) (h : (⟨1, ![n]⟩ : Shape).Slices (fun _ => 0) ⟨1, ![k]⟩) (hk : k ≤ n) (i : Fin k) :
    (Host.topK ⟨1, ![k]⟩ 0 gt x h).2 (Shape.Idx.ofFin i)
      = BitVec.ofNat 32 (sortedFrom (fun a b => gt (x (Shape.Idx.ofFin a)) (x (Shape.Idx.ofFin b)) == 1#1) (i.castLE hk)).val := by
  unfold Host.topK Host.sort2 extractStridedSlice iotaInDim
  simp
  rfl

theorem topK_at {n k : ℕ} {α : Type} (gt : α → α → BitVec 1) (x : (⟨1, ![n]⟩ : Shape).Idx → α) (h : (⟨1, ![n]⟩ : Shape).Slices (fun _ => 0) ⟨1, ![k]⟩) (hk : k ≤ n) (i : Fin k) :
    (Host.topK ⟨1, ![k]⟩ 0 gt x h).2 (ix1 i)
      = BitVec.ofNat 32 (sortedFrom (fun a b => gt (x (ix1 a)) (x (ix1 b)) == 1#1) (i.castLE hk)).val := by
  have e : ∀ {j : ℕ} (a : Fin j), (ix1 a : (⟨1, ![j]⟩ : Shape).Idx) = Shape.Idx.ofFin a := fun a => by
    funext b; fin_cases b; rfl
  simp only [e]
  exact topK_rank1 gt x h hk i

/-- The delays of a row, when some positions are known to be the picks. -/
theorem topK_picks (gt : EReal → EReal → BitVec 1) (hgt : ∀ a b, gt a b = BitVec.ofBool (decide (b < a))) (x : (⟨1, ![4096]⟩ : Shape).Idx → EReal) (h : (⟨1, ![4096]⟩ : Shape).Slices (fun _ => 0) ⟨1, ![5]⟩)
    (B : Fin 4096 → EReal) (hB : ∀ l, x (ix1 l) = B l) (σ : Fin 5 → Fin 4096) (hσ : Picks B σ) (i : Fin 5) :
    (Host.topK ⟨1, ![5]⟩ 0 gt x h).2 (ix1 i) = BitVec.ofNat 32 (σ i).val := by
  rw [topK_at gt x h (by decide) i, hσ.sorted _ (fun k k' => ?_) i (by decide)]
  rw [hgt, hB, hB]
  cases decide (B k' < B k) <;> rfl

end Cert.Picks

end
-- ==== Proof.Value.Argmax.lean ====
/-
The five rounds of the third call: the greatest entry of a row, the first lane that holds it, and the row without it.
-/
module

public import proofs.«01_k».proof.Proof.KernelIdeal.Rounds
public import proofs.«01_k».proof.Proof.Value.Picks
public import Idealize.ShloMosaic.Lib.Pipeline.ValueKit
public import Idealize.ShloMosaic.Lib.Pointwise
public import Idealize.ShloMosaic.Lib.KernelVsHost
public import Idealize.ShloMosaic.Lib.WholeRead
public import Idealize.ShloMosaic.Lib.SortNet.Extract

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

theorem fold_start : Ideal.ofBits .f32 0xFF800000#32 = (⊥ : EReal) := by
  simp [Ideal.ofBits, Ideal.ieee]

/-- The least of a family of words, once one of them is below all. -/
theorem fold_min {ι : Type} [DecidableEq ι] (g : ι → BitVec 32) (v w : BitVec 32) (x0 : ι) (h0 : g x0 = v) (hv : ∀ x, v.toInt ≤ (g x).toInt) (hw : v.toInt ≤ w.toInt) (s : Finset ι) :
    v.toInt ≤ (Finset.fold IntOp.minsi w g s).toInt ∧ (x0 ∈ s → Finset.fold IntOp.minsi w g s = v) := by
  induction s using Finset.induction_on with
  | empty => exact ⟨hw, fun h => absurd h (Finset.notMem_empty _)⟩
  | insert a s ha ih =>
    rw [Finset.fold_insert ha]
    have e := SortNet.toInt_minsi (g a) (Finset.fold IntOp.minsi w g s)
    refine ⟨by rw [e]; exact le_min (hv a) ih.1, fun h => BitVec.eq_of_toInt_eq ?_⟩
    rw [e]
    rcases Finset.mem_insert.mp h with rfl | h
    · rw [h0]; exact min_eq_left ih.1
    · rw [ih.2 h]; exact min_eq_right (hv a)

theorem peak_spec (u : FVec Ideal S1x4096 .f32) : (∀ l : Fin 4096, (u (ix2 0 l) : EReal) ≤ peak u) ∧ ∃ l : Fin 4096, u (ix2 0 l) = peak u := by
  have e : (peak u : EReal) = Finset.fold max (⊥ : EReal) (fun x : Fin 1 × Fin 4096 => (u (ix2 0 x.2) : EReal)) Finset.univ := by
    pointwise [peak]
    rw [fold_start]
  obtain ⟨l, -, hl⟩ := Finset.exists_max_image (Finset.univ : Finset (Fin 4096)) (fun l => (u (ix2 0 l) : EReal)) ⟨0, Finset.mem_univ _⟩
  have e' : (peak u : EReal) = u (ix2 0 l) := by
    rw [e]
    refine le_antisymm ?_ ?_
    · rw [Finset.fold_max_le]
      exact ⟨bot_le, fun x _ => hl x.2 (Finset.mem_univ _)⟩
    · exact (Finset.le_fold_max (s := Finset.univ) (f := fun x : Fin 1 × Fin 4096 => (u (ix2 0 x.2) : EReal)) (u (ix2 0 l))).mpr (Or.inr ⟨(0, l), Finset.mem_univ _, le_rfl⟩)
  exact ⟨fun k => by rw [e']; exact hl k (Finset.mem_univ _), l, e'.symm⟩

theorem first_of {n : ℕ} (B : Fin n → EReal) (P : EReal) (h : ∃ l, B l = P) : ∃ q, B q = P ∧ ∀ l, B l = P → q ≤ l := by
  classical
  obtain ⟨l0, hl0⟩ := h
  have hne : (Finset.univ.filter fun l => B l = P).Nonempty := ⟨l0, Finset.mem_filter.mpr ⟨Finset.mem_univ _, hl0⟩⟩
  exact ⟨_, (Finset.mem_filter.mp (Finset.min'_mem _ hne)).2, fun l hl => Finset.min'_le _ l (Finset.mem_filter.mpr ⟨Finset.mem_univ l, hl⟩)⟩

theorem lane_word (l : Fin 4096) : (BitVec.ofNat 32 l.val).toInt = (l.val : Int) := by
  rw [show (BitVec.ofNat 32 l.val).toInt = ((l.val : Int)).bmod (2 ^ 32) from BitVec.toInt_ofNat .., Int.bmod_eq_of_le (by omega) (by omega)]

/-- The first lane that holds the greatest entry. -/
theorem spot_spec (u : FVec Ideal S1x4096 .f32) : ∃ q : Fin 4096, spot u = BitVec.ofNat 32 q.val
    ∧ (∀ l : Fin 4096, (u (ix2 0 l) : EReal) ≤ u (ix2 0 q)) ∧ ∀ l : Fin 4096, l < q → (u (ix2 0 l) : EReal) < u (ix2 0 q) := by
  classical
  obtain ⟨hle, l0, hl0⟩ := peak_spec u
  obtain ⟨q, hq, hmin⟩ := first_of (fun l : Fin 4096 => (u (ix2 0 l) : EReal)) _ ⟨l0, hl0⟩
  refine ⟨q, ?_, fun l => by rw [hq]; exact hle l, fun l hl => by rw [hq]; exact lt_of_le_of_ne (hle l) fun e => absurd (hmin l e) (not_le_of_gt hl)⟩
  have e : spot u = Finset.fold IntOp.minsi (2147483647#32) (fun x : Fin 1 × Fin 4096 => if u (ix2 0 x.2) = peak u then BitVec.ofNat 32 x.2.val else 4096#32) Finset.univ := by
    pointwise [spot]
    simp only [lanes_apply]
    rfl
  rw [e]
  refine (fold_min _ _ _ (0, q) (if_pos hq) (fun x => ?_) ?_ Finset.univ).2 (Finset.mem_univ _)
  · split
    · rename_i h
      rw [lane_word, lane_word]
      exact Int.ofNat_le.mpr (hmin _ h)
    · rw [lane_word, show (4096#32 : BitVec 32).toInt = 4096 from rfl]
      have := q.isLt
      omega
  · rw [lane_word, show (2147483647#32 : BitVec 32).toInt = 2147483647 from rfl]
    have := q.isLt
    omega

theorem lanes_at (l : Fin 4096) : lanes (ix2 0 l) = BitVec.ofNat 32 l.val := lanes_apply _

theorem mark_at (u : FVec Ideal S1x4096 .f32) (q : Fin 4096) (h : spot u = BitVec.ofNat 32 q.val) (l : Fin 4096) : mark u (ix2 0 l) = if l = q then 1#1 else 0#1 := by
  unfold mark
  rw [h]
  show BitVec.ofBool (lanes (ix2 0 l) == BitVec.ofNat 32 q.val) = _
  rw [lanes_at]
  by_cases e : l = q
  · subst e; simp
  · rw [if_neg e, beq_eq_false_iff_ne.mpr fun h => e (Fin.ext ?_)]
    · rfl
    · have h' := congrArg BitVec.toInt h
      rw [lane_word, lane_word] at h'
      omega

theorem without_at (u : FVec Ideal S1x4096 .f32) (q : Fin 4096) (h : spot u = BitVec.ofNat 32 q.val) (l : Fin 4096) :
    (without u (ix2 0 l) : EReal) = if l = q then ⊥ else u (ix2 0 l) := by
  unfold without
  have hm := mark_at u q h l
  generalize mark u = mk at hm ⊢
  show Scalar.select (mk (ix2 0 l)) (Named.named κ "mask" 0xFF61B1E6#32 : Ideal .f32) (u (ix2 0 l)) = _
  rw [hm]
  by_cases e : l = q
  · rw [if_pos e, if_pos e]; rfl
  · rw [if_neg e, if_neg e]; rfl

theorem word_at (u : FVec Ideal S1x4096 .f32) (q : Fin 4096) (h : spot u = BitVec.ofNat 32 q.val) : wordOf (mark u) = BitVec.ofNat 32 q.val := by
  unfold mark
  rw [h, ← lanes_at]
  exact wordOf_lane _

theorem entry_at (u : FVec Ideal S1x4096 .f32) (q : Fin 4096) (h : spot u = BitVec.ofNat 32 q.val) (r : FVec Ideal S1x4096 .f32) : (entryOf (mark u) r : EReal) = r (ix2 0 q) := by
  have e : (entryOf (mark u) r : EReal) = ∑ x : Fin 1, ∑ x : Fin 4096, Scalar.select (mark u (ix2 0 x)) (r (ix2 0 x) : EReal) 0 := by
    generalize mark u = mk
    pointwise [entryOf]
  rw [e, Fin.sum_univ_one, Finset.sum_eq_single q]
  · rw [mark_at u q h, if_pos rfl]; rfl
  · intro l _ hl
    rw [mark_at u q h, if_neg hl]; rfl
  · exact fun h => absurd (Finset.mem_univ _) h

theorem round0_apply (x : Vec Ideal S2x1x4096 .f32) (l : Fin 4096) : round0 x (ix2 0 l) = (x (ix3 0 0 l) + x (ix3 1 0 l)) * Ideal.ofBits .f32 0x3F000000#32 := by
  pointwise [round0, k2_pay2, k2_pay1]

theorem rowA_apply (x : Vec Ideal S2x1x4096 .f32) (l : Fin 4096) : rowA x (ix2 0 l) = x (ix3 0 0 l) := by
  pointwise [rowA, k2_pay1]

theorem rowB_apply (x : Vec Ideal S2x1x4096 .f32) (l : Fin 4096) : rowB x (ix2 0 l) = x (ix3 1 0 l) := by
  pointwise [rowB, k2_pay1]

/-- The row of round `k`. -/
def rowOf (u : FVec Ideal S1x4096 .f32) : ℕ → FVec Ideal S1x4096 .f32
  | 0 => u
  | k + 1 => without (rowOf u k)

theorem round0_eq (x : Vec Ideal S2x1x4096 .f32) : round0 x = rowOf (round0 x) 0 := rfl
theorem round1_eq (x : Vec Ideal S2x1x4096 .f32) : round1 x = rowOf (round0 x) 1 := rfl
theorem round2_eq (x : Vec Ideal S2x1x4096 .f32) : round2 x = rowOf (round0 x) 2 := rfl
theorem round3_eq (x : Vec Ideal S2x1x4096 .f32) : round3 x = rowOf (round0 x) 3 := rfl
theorem round4_eq (x : Vec Ideal S2x1x4096 .f32) : round4 x = rowOf (round0 x) 4 := rfl

/-- Five rounds pick five positions, in the order of their values. -/
theorem rounds_pick (u : FVec Ideal S1x4096 .f32) (hu : ∀ l : Fin 4096, (u (ix2 0 l) : EReal) ≠ ⊥) :
    ∃ σ : Fin 5 → Fin 4096, Picks.Picks (fun l => (u (ix2 0 l) : EReal)) σ ∧ ∀ (k : ℕ) (hk : k < 5), spot (rowOf u k) = BitVec.ofNat 32 (σ ⟨k, hk⟩).val := by
  classical
  choose q hspot hmax hfirst using fun k => spot_spec (rowOf u k)
  have inv : ∀ (k : ℕ) (l : Fin 4096), (rowOf u k (ix2 0 l) : EReal) = if ∃ j < k, q j = l then ⊥ else u (ix2 0 l) := by
    intro k
    induction k with
    | zero => intro l; rw [if_neg (by rintro ⟨j, hj, -⟩; omega)]; rfl
    | succ k ih =>
      intro l
      rw [show rowOf u (k + 1) = without (rowOf u k) from rfl, without_at _ _ (hspot k), ih]
      by_cases e : l = q k
      · rw [if_pos e, if_pos ⟨k, Nat.lt_succ_self k, e.symm⟩]
      · rw [if_neg e]
        by_cases h : ∃ j < k, q j = l
        · obtain ⟨j, hj, hl⟩ := h
          rw [if_pos ⟨j, hj, hl⟩, if_pos ⟨j, by omega, hl⟩]
        · rw [if_neg h, if_neg]
          rintro ⟨j, hj, hl⟩
          rcases Nat.lt_succ_iff_lt_or_eq.mp hj with hj | rfl
          · exact h ⟨j, hj, hl⟩
          · exact e hl.symm
  have new : ∀ k < 5, ¬ ∃ j < k, q j = q k := by
    intro k hk hold
    have hcard : ((Finset.range k).image q).card < (Finset.univ : Finset (Fin 4096)).card :=
      lt_of_le_of_lt Finset.card_image_le (by rw [Finset.card_range, Finset.card_univ, Fintype.card_fin]; omega)
    obtain ⟨l, -, hl⟩ := Finset.exists_mem_notMem_of_card_lt_card hcard
    have h1 : ¬ ∃ j < k, q j = l := by
      rintro ⟨j, hj, e⟩
      exact hl (Finset.mem_image.mpr ⟨j, Finset.mem_range.mpr hj, e⟩)
    have h2 := hmax k l
    rw [inv, inv, if_neg h1, if_pos hold, le_bot_iff] at h2
    exact hu l h2
  refine ⟨fun i => q i.val, ⟨?_, ?_⟩, fun k _ => hspot k⟩
  · intro i j hij
    dsimp only at hij
    rcases lt_trichotomy i.val j.val with h | h | h
    · exact absurd ⟨i.val, h, hij⟩ (new j.val j.isLt)
    · exact Fin.ext h
    · exact absurd ⟨j.val, h, hij.symm⟩ (new i.val i.isLt)
  · intro i p hp
    have h1 : ¬ ∃ j < i.val, q j = p := by
      rintro ⟨j, hj, e⟩
      exact hp ⟨j, by omega⟩ (by show j < i.val; exact hj) e
    have h2 := hmax i.val p
    rw [inv, inv, if_neg h1, if_neg (new i.val i.isLt)] at h2
    refine ⟨h2, fun hlt => ?_⟩
    have h3 := hfirst i.val p hlt
    rw [inv, inv, if_neg h1, if_neg (new i.val i.isLt)] at h3
    exact h3

end Cert.KernelIdeal.Hand

end
-- ==== Proof.Value.Weights.lean ====
/-
The weights that the third call leaves: a softmax over the first five of 128 lanes.
-/
module

public import proofs.«01_k».proof.Proof.KernelIdeal.Rounds
public import Idealize.ShloMosaic.Lib.Pipeline.ValueKit
public import Idealize.ShloMosaic.Lib.Pointwise
public import Idealize.ShloMosaic.Lib.KernelVsHost
public import Idealize.ShloMosaic.Lib.WholeRead

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

theorem select_eq (n : ℕ) (k : ℕ) (hn : n < 4096) (hk : k < 4096) (a b : EReal) :
    Scalar.select (IntOp.cmpi .eq (BitVec.ofNat 32 n) (BitVec.ofNat 32 k)) a b = if n = k then a else b := by
  unfold Scalar.select IntOp.cmpi
  have e : (BitVec.ofNat 32 n == BitVec.ofNat 32 k) = decide (n = k) := by
    rw [Bool.eq_iff_iff, beq_iff_eq, decide_eq_true_iff]
    refine ⟨fun h => ?_, fun h => by rw [h]⟩
    have h' := congrArg BitVec.toNat h
    rw [BitVec.toNat_ofNat, BitVec.toNat_ofNat] at h'
    omega
  simp only [e]
  by_cases h : n = k <;> simp [h]

theorem select_lt (n : ℕ) (hn : n < 4096) (a b : EReal) :
    Scalar.select (IntOp.cmpi .slt (BitVec.ofNat 32 n) 5#32) a b = if n < 5 then a else b := by
  unfold Scalar.select IntOp.cmpi
  have e : (BitVec.ofNat 32 n).slt 5#32 = decide (n < 5) := by
    rw [Bool.eq_iff_iff, BitVec.slt_iff_toInt_lt, decide_eq_true_iff, show (BitVec.ofNat 32 n).toInt = ((n : Int)).bmod (2 ^ 32) from BitVec.toInt_ofNat .., Int.bmod_eq_of_le (by omega) (by omega), show (5#32 : BitVec 32).toInt = 5 from rfl]
    omega
  simp only [e]
  by_cases h : n < 5 <;> simp [h]

/-- The entries of the five lanes of a row, the others zero. -/
def laneSum (c : Fin 5 → EReal) (n : ℕ) : EReal :=
  (if n = 0 then c 0 else 0) + (if n = 1 then c 1 else 0) + (if n = 2 then c 2 else 0) + (if n = 3 then c 3 else 0) + (if n = 4 then c 4 else 0)

theorem laneSum_at (c : Fin 5 → EReal) (i : Fin 5) : laneSum c i.val = c i := by
  unfold laneSum
  fin_cases i <;> simp

theorem sum_first (f : ℕ → EReal) : (∑ x : Fin 128, if x.val < 5 then f x.val else 0) = ∑ i : Fin 5, f i.val := by
  refine (Fin.sum_univ_add (a := 5) (b := 123) (fun x : Fin (5 + 123) => if x.val < 5 then f x.val else 0)).trans ?_
  rw [show (∑ i : Fin 123, if (Fin.natAdd 5 i).val < 5 then f (Fin.natAdd 5 i).val else 0) = 0 from
    Finset.sum_eq_zero fun i _ => if_neg (by simp), add_zero]
  exact Finset.sum_congr rfl fun i _ => if_pos i.isLt

theorem max_first (f : ℕ → EReal) : Finset.fold max (⊥ : EReal) (fun x : Fin 128 => if x.val < 5 then f x.val else ⊥) Finset.univ = Finset.fold max (⊥ : EReal) (fun i : Fin 5 => f i.val) Finset.univ := by
  refine le_antisymm ?_ ?_
  · rw [Finset.fold_max_le]
    refine ⟨bot_le, fun x _ => ?_⟩
    split
    · rename_i h
      exact (Finset.le_fold_max (s := Finset.univ) (f := fun i : Fin 5 => f i.val) (f x.val)).mpr (Or.inr ⟨⟨x.val, h⟩, Finset.mem_univ _, le_rfl⟩)
    · exact bot_le
  · rw [Finset.fold_max_le]
    refine ⟨bot_le, fun i _ => ?_⟩
    refine (Finset.le_fold_max (s := Finset.univ) (f := fun x : Fin 128 => if x.val < 5 then f x.val else ⊥) (f i.val)).mpr (Or.inr ⟨⟨i.val, by omega⟩, Finset.mem_univ _, ?_⟩)
    dsimp only
    rw [if_pos i.isLt]

theorem start_bot : Ideal.ofBits .f32 0xFF800000#32 = (⊥ : EReal) := by
  simp [Ideal.ofBits, Ideal.ieee]

theorem mask_bot : (Named.named κ "mask" 0xFF61B1E6#32 : Ideal .f32) = (⊥ : EReal) := rfl

def packed (a b : Fin 5 → EReal) : FVec Ideal S2x1x128 .f32 :=
  k2_pay30 (F := Ideal) (a 3) (b 3) (a 4) (b 4)
    (iota .tc S2x128 32 [1] iota_S2x128_d1_w32) (iota .tc S2x128 32 [0] iota_S2x128_d0_w32)
    (k2_pay27 (F := Ideal) (a 0) (b 0) (a 1) (b 1))
    k2_pay28 (k2_pay29 (F := Ideal) (a 2) (b 2))
    (Scalar.ofBits .f32 0x00000000#32)

theorem packed_apply (a b : Fin 5 → EReal) (p : Fin 2) (q : Fin 5) (c : Fin 5 → EReal) (hc : ∀ i, c i = if p.val = 0 then a i else b i) (s : EReal) (hs : s = Ideal.ofBits .f32 0x3D13CD3A#32) :
    packed a b (ix3 p 0 ⟨q.val, by omega⟩) = Ideal.div (Ideal.exp (c q * s - Finset.fold max (⊥ : EReal) (fun i => c i * s) Finset.univ))
      (∑ j, Ideal.exp (c j * s - Finset.fold max (⊥ : EReal) (fun i => c i * s) Finset.univ)) := by
  have hp : p.val < 4096 := by omega
  pointwise [packed, k2_pay30, k2_pay27, k2_pay28, k2_pay29]
  have e : ∀ n : ℕ, n < 4096 →
      (Scalar.select (IntOp.cmpi CmpIPredicate.eq (BitVec.ofNat 32 n) 0#32)
                        (Scalar.select (IntOp.cmpi CmpIPredicate.eq (BitVec.ofNat 32 ↑p) 0#32) (a 0) (b 0)) 0 +
                      Scalar.select (IntOp.cmpi CmpIPredicate.eq (BitVec.ofNat 32 n) 1#32)
                        (Scalar.select (IntOp.cmpi CmpIPredicate.eq (BitVec.ofNat 32 ↑p) 0#32) (a 1) (b 1)) 0 +
                    Scalar.select (IntOp.cmpi CmpIPredicate.eq (BitVec.ofNat 32 n) 2#32)
                      (Scalar.select (IntOp.cmpi CmpIPredicate.eq (BitVec.ofNat 32 ↑p) 0#32) (a 2) (b 2)) 0 +
                  Scalar.select (IntOp.cmpi CmpIPredicate.eq (BitVec.ofNat 32 n) 3#32)
                    (Scalar.select (IntOp.cmpi CmpIPredicate.eq (BitVec.ofNat 32 ↑p) 0#32) (a 3) (b 3)) 0 +
                Scalar.select (IntOp.cmpi CmpIPredicate.eq (BitVec.ofNat 32 n) 4#32)
                  (Scalar.select (IntOp.cmpi CmpIPredicate.eq (BitVec.ofNat 32 ↑p) 0#32) (a 4) (b 4)) 0) = laneSum c n := fun n hn => by
    rw [select_eq n 0 hn (by decide), select_eq n 1 hn (by decide), select_eq n 2 hn (by decide), select_eq n 3 hn (by decide), select_eq n 4 hn (by decide),
      select_eq p.val 0 hp (by decide), select_eq p.val 0 hp (by decide), select_eq p.val 0 hp (by decide), select_eq p.val 0 hp (by decide), select_eq p.val 0 hp (by decide)]
    unfold laneSum
    simp only [hc]
  have e128 : ∀ x : Fin 128, x.val < 4096 := fun x => by omega
  have e5 : ∀ x : Fin 5, x.val < 4096 := fun x => by omega
  simp only [e _ (e128 _), e _ (e5 _), select_lt _ (e128 _), select_lt _ (e5 _), mask_bot, start_bot, ← hs]
  rw [max_first (fun n => laneSum c n * s), sum_first (fun n => Ideal.exp (laneSum c n * s - Finset.fold max (⊥ : EReal) (fun i : Fin 5 => laneSum c i.val * s) Finset.univ)), if_pos q.isLt]
  simp only [laneSum_at]

end Cert.KernelIdeal.Hand

end
-- ==== Proof.Reference.Terms.lean ====
/-
The reference, cut into the pieces that it is written in: the projections, the mean correlation of every delay,
the delays, the weights of the delays, and one result of them.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe

/-- A projection: the rows of `X` against the rows of `W`, and a bias. -/
def proj (X : FVec Ideal S2x4096x768 .f32) (W : FVec Ideal S768x768 .f32) (b : FVec Ideal S768 .f32) : FVec Ideal S2x4096x768 .f32 :=
  addf (Host.dotGeneral dot_S2x4096x768_S768x768_S2x4096x768_2_0_01_1_n_n none X (transpose S768x768 [1, 0] W transposes_S768x768_S768x768_1_0)) (broadcastInDim S2x4096x768 ![0, 1, 2] bcast_S1x1x768_S2x4096x768_0_1_2 (broadcastInDim S1x1x768 ![2] bcast_S768_S1x1x768_2 b))

/-- The queries shifted by every delay. -/
def shifted (Q : FVec Ideal S2x4096x768 .f32) : FVec Ideal S2x4096x4096x768 .f32 :=
  Host.gather gather_S2x4096x768_S4096x4096x1_S2x4096x4096x768_03_1_n_n_1_2_21768 Q (broadcastInDim S4096x4096x1 ![0, 1] bcast_S4096x4096_S4096x4096x1_0_1 (Host.remsi (addi (iotaInDim S4096x4096 32 0) (iotaInDim S4096x4096 32 1)) (broadcastInDim S4096x4096 ![] bcast_S_S4096x4096 (constantI S_ 32 4096#32))))

/-- The mean correlation of every delay. -/
def meanCorr (Q K : FVec Ideal S2x4096x768 .f32) : FVec Ideal S2x4096 .f32 :=
  Host.divf (Host.reduceAdd (Host.reduceAdd (mulf (shifted Q) (broadcastInDim S2x4096x4096x768 ![0, 1, 2, 3] bcast_S2x1x4096x768_S2x4096x4096x768_0_1_2_3 (broadcastInDim S2x1x4096x768 ![0, 2, 3] bcast_S2x4096x768_S2x1x4096x768_0_2_3 K))) (constant S_ .f32 0x00000000#32) reducesTo_S2x4096x4096x768_S2x4096x768_d2 h_S_) (constant S_ .f32 0x00000000#32) reducesTo_S2x4096x768_S2x4096_d2 h_S_) (broadcastInDim S2x4096 ![] bcast_S_S2x4096 (constant S_ .f32 0x44400000#32))

/-- Its mean over the batch. -/
def batchMean (M : FVec Ideal S2x4096 .f32) : FVec Ideal S4096 .f32 :=
  Host.divf (Host.reduceAdd M (constant S_ .f32 0x00000000#32) reducesTo_S2x4096_S4096_d0 h_S_) (broadcastInDim S4096 ![] bcast_S_S4096 (constant S_ .f32 0x40000000#32))

/-- The five delays of the greatest mean. -/
def delays (B : FVec Ideal S4096 .f32) : IVec S5 32 :=
  (Host.topK S5 0 (FloatOps.cmpfTotal (F := Ideal) (φ := .f32) .gt) B sliceFits_S4096_S5).2

/-- The scaled mean correlations at five delays. -/
def scaled (M : FVec Ideal S2x4096 .f32) (I : IVec S5 32) : FVec Ideal S2x5 .f32 :=
  mulf (Host.gather gather_S2x4096_S5x1_S2x5_0_1_n_n_1_1_21 M (broadcastInDim S5x1 ![0] bcast_S5_S5x1_0 I)) (broadcastInDim S2x5 ![] bcast_S_S2x5 (constant S_ .f32 0x3D13CD3A#32))

/-- Their exponentials, the greatest taken off first. -/
def exps (w : FVec Ideal S2x5 .f32) : FVec Ideal S2x5 .f32 :=
  Host.exp (subf w (broadcastInDim S2x5 ![0, 1] bcast_S2x1_S2x5_0_1 (broadcastInDim S2x1 ![0] bcast_S2_S2x1_0 (maximumf (broadcastInDim S2 ![] bcast_S_S2 (constant S_ .f32 0xFF800000#32)) (Host.reduce FloatOps.maximumf w (constant S_ .f32 0xFF800000#32) reducesTo_S2x5_S2_d1 h_S_)))))

/-- The weights: the exponentials over their sum. -/
def soft (e : FVec Ideal S2x5 .f32) : FVec Ideal S2x5 .f32 :=
  Host.divf e (broadcastInDim S2x5 ![0, 1] bcast_S2x1_S2x5_0_1 (broadcastInDim S2x1 ![0] bcast_S2_S2x1_0 (Host.reduceAdd e (constant S_ .f32 0x00000000#32) reducesTo_S2x5_S2_d1 h_S_)))

/-- The values shifted by a delay, times a weight. -/
def part (Vv : FVec Ideal S2x4096x768 .f32) (i : IVec S1 32) (w : FVec Ideal S2x1 .f32) : FVec Ideal S2x4096x768 .f32 :=
  mulf (Host.gather gather_S2x4096x768_S4096x1_S2x4096x768_02_1_n_n_1_1_21768 Vv (broadcastInDim S4096x1 ![0] bcast_S4096_S4096x1_0 (Host.remsi (addi (iotaInDim S4096 32 0) (broadcastInDim S4096 ![] bcast_S_S4096 (shapeCast S_ i shapeCasts_S1_S_))) (broadcastInDim S4096 ![] bcast_S_S4096 (constantI S_ 32 4096#32))))) (broadcastInDim S2x4096x768 ![0, 1, 2] bcast_S2x1x1_S2x4096x768_0_1_2 (broadcastInDim S2x1x1 ![0] bcast_S2_S2x1x1_0 (shapeCast S2 w shapeCasts_S2x1_S2)))

/-- The first result from the values and the mean correlations. -/
def first (Vv : FVec Ideal S2x4096x768 .f32) (M : FVec Ideal S2x4096 .f32) : FVec Ideal S2x4096x768 .f32 :=
  part Vv (extractStridedSlice S1 ![0] (delays (batchMean M)) slices_S5_S1_0)
    (extractStridedSlice S2x1 ![0, 0] (soft (exps (scaled M (delays (batchMean M))))) slices_S2x5_S2x1_0_0)

/-- The second result from the values and the mean correlations. -/
def last (Vv : FVec Ideal S2x4096x768 .f32) (M : FVec Ideal S2x4096 .f32) : FVec Ideal S2x4096x768 .f32 :=
  part Vv (extractStridedSlice S1 ![4] (delays (batchMean M)) slices_S5_S1_4)
    (extractStridedSlice S2x1 ![0, 4] (soft (exps (scaled M (delays (batchMean M))))) slices_S2x5_S2x1_0_4)

section
variable (m : (ℓ : Loc nD τ sig) → Buf (Elt Ideal) ℓ) (c : Dev nD)

theorem res0 : Value.res_main_v57 (F := Ideal) m c
    = first (proj (m ((c.tc : Thread nD τ).loc main_arg1)) (m ((c.tc : Thread nD τ).loc main_arg6)) (m ((c.tc : Thread nD τ).loc main_arg7)))
        (meanCorr (proj (m ((c.tc : Thread nD τ).loc main_arg0)) (m ((c.tc : Thread nD τ).loc main_arg2)) (m ((c.tc : Thread nD τ).loc main_arg3)))
          (proj (m ((c.tc : Thread nD τ).loc main_arg1)) (m ((c.tc : Thread nD τ).loc main_arg4)) (m ((c.tc : Thread nD τ).loc main_arg5)))) := rfl

theorem res1 : Value.res_main_v69 (F := Ideal) m c
    = last (proj (m ((c.tc : Thread nD τ).loc main_arg1)) (m ((c.tc : Thread nD τ).loc main_arg6)) (m ((c.tc : Thread nD τ).loc main_arg7)))
        (meanCorr (proj (m ((c.tc : Thread nD τ).loc main_arg0)) (m ((c.tc : Thread nD τ).loc main_arg2)) (m ((c.tc : Thread nD τ).loc main_arg3)))
          (proj (m ((c.tc : Thread nD τ).loc main_arg1)) (m ((c.tc : Thread nD τ).loc main_arg4)) (m ((c.tc : Thread nD τ).loc main_arg5)))) := rfl
end

theorem proj_apply (X : FVec Ideal S2x4096x768 .f32) (W : FVec Ideal S768x768 .f32) (b : FVec Ideal S768 .f32) (p : Fin 2) (l : Fin 4096) (e : Fin 768) :
    proj X W b (ix3 p l e) = (∑ d : Fin 768, X (ix3 p l d) * W (ix2 e d)) + b (ix1 e) := by
  pointwise [proj]

/-- Three takes along the axis of length 4096, read at an index: the position is read signed and clamped. -/
theorem take_rows (x : FVec Ideal S2x4096x768 .f32) (idx : IVec S4096x1 32) (p : Fin 2) (l : Fin 4096) (e : Fin 768) :
    Host.gather gather_S2x4096x768_S4096x1_S2x4096x768_02_1_n_n_1_1_21768 x idx (ix3 p l e)
      = x (ix3 p ⟨min (idx (ix2 l 0)).toInt.toNat 4095, by omega⟩ e) := by
  unfold Host.gather
  refine congrArg x (funext fun a => ?_)
  refine Fin.ext ?_
  match a with
  | ⟨0, _⟩ => exact (Nat.zero_add _).trans rfl
  | ⟨1, _⟩ =>
    show (GatherDims.start _ _ idx 1) + 0 + 0 = _
    simp only [Nat.add_zero]
    unfold GatherDims.start
    refine (dif_pos (by exact List.mem_singleton.mpr rfl)).trans ?_
    refine congrArg (fun v : BitVec 32 => min v.toInt.toNat 4095) (congrArg idx (funext fun b => Fin.ext ?_))
    match b with
    | ⟨0, _⟩ => rfl
    | ⟨1, _⟩ => rfl
  | ⟨2, _⟩ => exact (Nat.zero_add _).trans rfl

theorem take_all (x : FVec Ideal S2x4096x768 .f32) (idx : IVec S4096x4096x1 32) (p : Fin 2) (l t : Fin 4096) (e : Fin 768) :
    Host.gather gather_S2x4096x768_S4096x4096x1_S2x4096x4096x768_03_1_n_n_1_2_21768 x idx (ix4 p l t e)
      = x (ix3 p ⟨min (idx (ix3 l t 0)).toInt.toNat 4095, by omega⟩ e) := by
  unfold Host.gather
  refine congrArg x (funext fun a => ?_)
  refine Fin.ext ?_
  match a with
  | ⟨0, _⟩ => exact (Nat.zero_add _).trans rfl
  | ⟨1, _⟩ =>
    show (GatherDims.start _ _ idx 1) + 0 + 0 = _
    simp only [Nat.add_zero]
    unfold GatherDims.start
    refine (dif_pos (by exact List.mem_singleton.mpr rfl)).trans ?_
    refine congrArg (fun v : BitVec 32 => min v.toInt.toNat 4095) (congrArg idx (funext fun b => Fin.ext ?_))
    match b with
    | ⟨0, _⟩ => rfl
    | ⟨1, _⟩ => rfl
    | ⟨2, _⟩ => rfl
  | ⟨2, _⟩ => exact (Nat.zero_add _).trans rfl

theorem take_five (x : FVec Ideal S2x4096 .f32) (idx : IVec S5x1 32) (p : Fin 2) (i : Fin 5) :
    Host.gather gather_S2x4096_S5x1_S2x5_0_1_n_n_1_1_21 x idx (ix2 p i)
      = x (ix2 p ⟨min (idx (ix2 i 0)).toInt.toNat 4095, by omega⟩) := by
  unfold Host.gather
  refine congrArg x (funext fun a => ?_)
  refine Fin.ext ?_
  match a with
  | ⟨0, _⟩ => exact (Nat.zero_add _).trans rfl
  | ⟨1, _⟩ =>
    show (GatherDims.start _ _ idx 1) + 0 + 0 = _
    simp only [Nat.add_zero]
    unfold GatherDims.start
    refine (dif_pos (by exact List.mem_singleton.mpr rfl)).trans ?_
    refine congrArg (fun v : BitVec 32 => min v.toInt.toNat 4095) (congrArg idx (funext fun b => Fin.ext ?_))
    match b with
    | ⟨0, _⟩ => rfl
    | ⟨1, _⟩ => rfl

/-- A sum of two numbers below 4096, taken round. -/
theorem wrap_words (a b : ℕ) (ha : a < 4096) (hb : b < 4096) (u v : BitVec 32) (hu : u.toNat = a) (hv : v.toNat = b) :
    min (IntOp.remsi .host (IntOp.addi u v) 4096#32).toInt.toNat 4095 = (a + b) % 4096 := by
  have hs : (IntOp.addi u v).toNat = a + b := by
    show (u + v).toNat = _
    rw [BitVec.toNat_add, hu, hv]
    exact Nat.mod_eq_of_lt (by omega)
  have h := IntOp.toNat_remsi .host (x := IntOp.addi u v) (by rw [hs]; omega) 4096 (by omega) (by omega)
  rw [hs] at h
  have hlt : (a + b) % 4096 < 4096 := Nat.mod_lt _ (by decide)
  change (IntOp.remsi .host (IntOp.addi u v) 4096#32).toNat = _ at h
  rw [BitVec.toInt_eq_toNat_of_lt (by rw [h]; omega), h, Int.toNat_natCast]
  omega

theorem batchMean_apply (M : FVec Ideal S2x4096 .f32) (l : Fin 4096) :
    batchMean M (ix1 l) = Ideal.div (M (ix2 0 l) + M (ix2 1 l)) (Ideal.ofBits .f32 0x40000000#32) := by
  pointwise [batchMean]
  rw [Fin.sum_univ_two]

theorem meanCorr_apply (Q K : FVec Ideal S2x4096x768 .f32) (p : Fin 2) (l : Fin 4096) :
    meanCorr Q K (ix2 p l) = Ideal.div (∑ e : Fin 768, ∑ t : Fin 4096, shifted Q (ix4 p l t e) * K (ix3 p t e)) (Ideal.ofBits .f32 0x44400000#32) := by
  pointwise [meanCorr]

theorem shifted_apply (Q : FVec Ideal S2x4096x768 .f32) (p : Fin 2) (l t : Fin 4096) (e : Fin 768) :
    shifted Q (ix4 p l t e) = Q (ix3 p ⟨(l.val + t.val) % 4096, Nat.mod_lt _ (by decide)⟩ e) := by
  unfold shifted
  rw [take_all]
  refine congrArg Q (congrArg (fun k => ix3 p k e) (Fin.ext ?_))
  pointwise
  exact wrap_words l.val t.val l.isLt t.isLt _ _ (BitVec.toNat_ofNat _ _ |>.trans (Nat.mod_eq_of_lt (by omega))) (BitVec.toNat_ofNat _ _ |>.trans (Nat.mod_eq_of_lt (by omega)))

/-- Which row a delay reads. -/
def at_ (i : BitVec 32) : Fin 4096 := ⟨min i.toInt.toNat 4095, by omega⟩

theorem scaled_apply (M : FVec Ideal S2x4096 .f32) (I : IVec S5 32) (p : Fin 2) (i : Fin 5) :
    scaled M I (ix2 p i) = M (ix2 p (at_ (I (ix1 i)))) * Ideal.ofBits .f32 0x3D13CD3A#32 := by
  pointwise [scaled]
  rw [take_five]
  pointwise
  rfl

theorem exps_apply (w : FVec Ideal S2x5 .f32) (p : Fin 2) (i : Fin 5) :
    exps w (ix2 p i) = Ideal.exp (w (ix2 p i) -
        max (Ideal.ofBits .f32 0xFF800000#32)
          (Finset.fold max (Ideal.ofBits .f32 0xFF800000#32) (fun x => w (ix2 p x)) Finset.univ)) := by
  pointwise [exps]

theorem soft_apply (w : FVec Ideal S2x5 .f32) (p : Fin 2) (i : Fin 5) :
    soft w (ix2 p i) = Ideal.div (w (ix2 p i)) (∑ x, w (ix2 p x)) := by
  pointwise [soft]

theorem part_apply (Vv : FVec Ideal S2x4096x768 .f32) (i : IVec S1 32) (w : FVec Ideal S2x1 .f32) (p : Fin 2) (l : Fin 4096) (e : Fin 768)
    (k : ℕ) (hk : k < 4096) (hi : (i (ix1 0)).toNat = k) :
    part Vv i w (ix3 p l e) = Vv (ix3 p ⟨(l.val + k) % 4096, Nat.mod_lt _ (by decide)⟩ e) * w (ix2 p 0) := by
  pointwise [part]
  rw [take_rows]
  refine congrArg (fun k => Vv (ix3 p k e) * w (ix2 p 0)) (Fin.ext ?_)
  pointwise
  exact wrap_words l.val k l.isLt hk _ _ (BitVec.toNat_ofNat _ _ |>.trans (Nat.mod_eq_of_lt (by omega))) hi

end Cert.ReferenceIdeal.Hand

end
-- ==== Proof.Value.Choice.lean ====
/-
The five delays and their weights: those of the third call are those of the reference.
-/
module

public import proofs.«01_k».proof.Proof.Value.Argmax
public import proofs.«01_k».proof.Proof.Value.Weights
public import proofs.«01_k».proof.Proof.Value.Picks
public import proofs.«01_k».proof.Proof.Value.Correlation
public import proofs.«01_k».proof.Proof.Reference.Terms

@[expose] public section

set_option maxRecDepth 16384

noncomputable section

namespace Cert.Choice

open Idealize.ShloMosaic Cert.KernelIdeal.Hand

theorem at_word (q : Fin 4096) : Cert.ReferenceIdeal.Hand.at_ (BitVec.ofNat 32 q.val) = q := by
  unfold Cert.ReferenceIdeal.Hand.at_
  refine Fin.ext ?_
  show min (BitVec.ofNat 32 q.val).toInt.toNat 4095 = q.val
  rw [lane_word]
  have := q.isLt
  omega

/-- The delays of a row are the positions that the rounds pick. -/
theorem delays_eq (B : FVec Ideal Cert.ReferenceIdeal.S4096 .f32) (B' : Fin 4096 → EReal) (hB : ∀ l, (B (ix1 l) : EReal) = B' l) (σ : Fin 5 → Fin 4096) (h : Picks.Picks B' σ) (i : Fin 5) :
    Cert.ReferenceIdeal.Hand.delays B (ix1 i) = BitVec.ofNat 32 (σ i).val := by
  unfold Cert.ReferenceIdeal.Hand.delays
  exact Picks.topK_picks _ (fun a b => rfl) B _ B' hB σ h i

theorem packed_eq (x : FVec Ideal Cert.KernelIdeal.S2x1x4096 .f32) (σ : Fin 5 → Fin 4096) (h0 : spot (round0 (F := Ideal) x) = BitVec.ofNat 32 (σ 0).val) (h1 : spot (round1 (F := Ideal) x) = BitVec.ofNat 32 (σ 1).val) (h2 : spot (round2 (F := Ideal) x) = BitVec.ofNat 32 (σ 2).val) (h3 : spot (round3 (F := Ideal) x) = BitVec.ofNat 32 (σ 3).val) (h4 : spot (round4 (F := Ideal) x) = BitVec.ofNat 32 (σ 4).val) :
    weights x = packed (fun i => x (ix3 0 0 (σ i))) (fun i => x (ix3 1 0 (σ i))) := by
  unfold weights packed
  rw [entry_at _ _ h0, entry_at _ _ h0, entry_at _ _ h1, entry_at _ _ h1, entry_at _ _ h2, entry_at _ _ h2, entry_at _ _ h3, entry_at _ _ h3, entry_at _ _ h4, entry_at _ _ h4]
  simp only [rowA_apply, rowB_apply]

theorem soft_packed (x : FVec Ideal Cert.KernelIdeal.S2x1x4096 .f32) (f : Fin 2 → Fin 4096 → ℝ) (hx : ∀ p l, (x (ix3 p 0 l) : EReal) = f p l) (σ : Fin 5 → Fin 4096)
    (w : FVec Ideal Cert.ReferenceIdeal.S2x5 .f32) (hw : ∀ p j, (w (ix2 p j) : EReal) = (f p (σ j) : EReal) * Ideal.ofBits .f32 0x3D13CD3A#32) (p : Fin 2) (i : Fin 5) :
    packed (fun i => x (ix3 0 0 (σ i))) (fun i => x (ix3 1 0 (σ i))) (ix3 p 0 ⟨i.val, by omega⟩)
      = Cert.ReferenceIdeal.Hand.soft (Cert.ReferenceIdeal.Hand.exps w) (ix2 p i) := by
  have hc : ∀ j, (f p (σ j) : EReal) = if p.val = 0 then (fun i => (x (ix3 0 0 (σ i)) : EReal)) j else (fun i => (x (ix3 1 0 (σ i)) : EReal)) j := fun j => by
    dsimp only
    rw [hx, hx]
    match p with
    | ⟨0, _⟩ => rw [if_pos rfl]; rfl
    | ⟨1, _⟩ => rw [if_neg Nat.one_ne_zero]; rfl
  rw [packed_apply _ _ p i (fun j => (f p (σ j) : EReal)) hc _ rfl, Cert.ReferenceIdeal.Hand.soft_apply]
  simp only [Cert.ReferenceIdeal.Hand.exps_apply, hw, start_bot, bot_le, max_eq_right]

theorem choice (x : FVec Ideal Cert.KernelIdeal.S2x1x4096 .f32) (M : FVec Ideal Cert.ReferenceIdeal.S2x4096 .f32) (f : Fin 2 → Fin 4096 → ℝ)
    (hx : ∀ p l, (x (ix3 p 0 l) : EReal) = f p l) (hM : ∀ p l, (M (ix2 p l) : EReal) = f p l) :
    ∃ σ : Fin 5 → Fin 4096, (∀ i, Cert.ReferenceIdeal.Hand.delays (Cert.ReferenceIdeal.Hand.batchMean M) (ix1 i) = BitVec.ofNat 32 (σ i).val)
      ∧ wordOf (mark (round0 (F := Ideal) x)) = BitVec.ofNat 32 (σ 0).val ∧ wordOf (mark (round4 (F := Ideal) x)) = BitVec.ofNat 32 (σ 4).val
      ∧ ∀ (p : Fin 2) (i : Fin 5), weights (F := Ideal) x (ix3 p 0 ⟨i.val, by omega⟩)
          = Cert.ReferenceIdeal.Hand.soft (Cert.ReferenceIdeal.Hand.exps (Cert.ReferenceIdeal.Hand.scaled M (Cert.ReferenceIdeal.Hand.delays (Cert.ReferenceIdeal.Hand.batchMean M)))) (ix2 p i) := by
  obtain ⟨σ, hσ, hs⟩ := rounds_pick (round0 x) (fun l => by rw [round0_apply, hx, hx]; exact Correlation.mean_ne _ _)
  have hd := fun i => delays_eq (Cert.ReferenceIdeal.Hand.batchMean M) _ (fun l => by
    rw [Cert.ReferenceIdeal.Hand.batchMean_apply, hM, hM, round0_apply, hx, hx, Correlation.mean_eq]) σ hσ i
  have w := hs 0 (by decide)
  have h0 : spot (round0 (F := Ideal) x) = BitVec.ofNat 32 (σ 0).val := w
  clear w
  have w := hs 1 (by decide)
  rw [← round1_eq] at w
  have h1 : spot (round1 (F := Ideal) x) = BitVec.ofNat 32 (σ 1).val := w
  clear w
  have w := hs 2 (by decide)
  rw [← round2_eq] at w
  have h2 : spot (round2 (F := Ideal) x) = BitVec.ofNat 32 (σ 2).val := w
  clear w
  have w := hs 3 (by decide)
  rw [← round3_eq] at w
  have h3 : spot (round3 (F := Ideal) x) = BitVec.ofNat 32 (σ 3).val := w
  clear w
  have w := hs 4 (by decide)
  rw [← round4_eq] at w
  have h4 : spot (round4 (F := Ideal) x) = BitVec.ofNat 32 (σ 4).val := w
  clear w
  refine ⟨σ, hd, word_at (round0 x) _ h0, word_at (round4 x) _ h4, fun p i => ?_⟩
  have hw : ∀ (p : Fin 2) (j : Fin 5), (Cert.ReferenceIdeal.Hand.scaled M (Cert.ReferenceIdeal.Hand.delays (Cert.ReferenceIdeal.Hand.batchMean M)) (ix2 p j) : EReal) = (f p (σ j) : EReal) * Ideal.ofBits .f32 0x3D13CD3A#32 := fun p j => by
    rw [Cert.ReferenceIdeal.Hand.scaled_apply, hd, at_word, hM]
  rw [packed_eq x σ h0 h1 h2 h3 h4]
  exact soft_packed x f hx σ _ hw p i

end Cert.Choice

end
-- ==== Proof.Value.Results.lean ====
/-
The two results of the kernel are those of the reference, when the six arrays that the correlation reads are real.
-/
module

public import proofs.«01_k».proof.Proof.Value.Mean
public import proofs.«01_k».proof.Proof.Value.Region2
public import proofs.«01_k».proof.Proof.Value.Region3Array
public import proofs.«01_k».proof.Proof.Value.Choice

@[expose] public section

set_option maxRecDepth 16384

noncomputable section

namespace Cert.Results

open Cert.KernelIdeal Cert.KernelIdeal.Gen Cert.KernelIdeal.Hand Idealize.ShloMosaic Idealize.ShloMosaic.TcCoe Idealize.SL.Sem
open Idealize.ShloMosaic.Pipeline (Dat)

/-- The mean correlations of the reference, for real arguments. -/
theorem meanCorr_real (x t : FVec Ideal S2x4096x768 .f32) (wq wk : FVec Ideal S768x768 .f32) (b b' : FVec Ideal S768 .f32)
    (X T : S2x4096x768.Idx → ℝ) (Wq Wk : S768x768.Idx → ℝ) (bq bk : S768.Idx → ℝ)
    (h0 : Reals x X) (h1 : Reals t T) (h2 : Reals wq Wq) (h3 : Reals b bq) (h4 : Reals wk Wk) (h5 : Reals b' bk) (p : Fin 2) (l : Fin 4096) :
    (Cert.ReferenceIdeal.Hand.meanCorr (Cert.ReferenceIdeal.Hand.proj x wq b) (Cert.ReferenceIdeal.Hand.proj t wk b') (ix2 p l) : EReal)
      = (Correlation.corr (line X Wq bq p) (line T Wk bk p) l.val : EReal) := by
  have e1 : ∀ (l : Fin 4096) (e : Fin 768), (Cert.ReferenceIdeal.Hand.proj x wq b (ix3 p l e) : EReal) = (line X Wq bq p l e : EReal) := fun l e => by
    rw [Cert.ReferenceIdeal.Hand.proj_apply, ← line_coe, h3]
    exact congrArg (· + _) (Finset.sum_congr rfl fun d _ => congrArg₂ (· * ·) (h0 _) (h2 _))
  have e2 : ∀ (l : Fin 4096) (e : Fin 768), (Cert.ReferenceIdeal.Hand.proj t wk b' (ix3 p l e) : EReal) = (line T Wk bk p l e : EReal) := fun l e => by
    rw [Cert.ReferenceIdeal.Hand.proj_apply, ← line_coe, h5]
    exact congrArg (· + _) (Finset.sum_congr rfl fun d _ => congrArg₂ (· * ·) (h1 _) (h4 _))
  rw [Cert.ReferenceIdeal.Hand.meanCorr_apply, ← Correlation.whole_eq]
  refine congrArg (Ideal.div · _) (Finset.sum_congr rfl fun e _ => Finset.sum_congr rfl fun t' _ => ?_)
  rw [Cert.ReferenceIdeal.Hand.shifted_apply, e1, e2]

/-- One result: the values of the kernel's last call against those of the reference. -/
theorem rolled_eq (n : ℕ) (hn : n < 4096) (q : Fin 5) (Xv : FVec Ideal S2x8192x768 .bf16) (w : FVec Ideal S2x1x128 .f32) (W : FVec Ideal S768x768 .f32) (b' : FVec Ideal S1x768 .f32)
    (t : FVec Ideal S2x4096x768 .f32) (b : FVec Ideal S768 .f32) (I : IVec Cert.ReferenceIdeal.S1 32) (w' : FVec Ideal Cert.ReferenceIdeal.S2x1 .f32)
    (hX : ∀ (p : Fin 2) (k : Fin 8192) (d : Fin 768), (Xv (ix3 p k d) : EReal) = t (ix3 p ⟨k.val % 4096, Nat.mod_lt _ (by decide)⟩ d))
    (hb : ∀ e : Fin 768, (b' (ix2 0 e) : EReal) = b (ix1 e)) (hI : (I (ix1 0)).toNat = n) (hw : ∀ p : Fin 2, (w (ix3 p 0 ⟨q.val, by omega⟩) : EReal) = w' (ix2 p 0)) :
    rolled n hn ⟨q.val, by omega⟩ Xv w W b' = Cert.ReferenceIdeal.Hand.part (Cert.ReferenceIdeal.Hand.proj t W b) I w' := by
  funext y
  obtain ⟨p, l, e, rfl⟩ : ∃ (p : Fin 2) (l : Fin 4096) (e : Fin 768), y = ix3 p l e := ⟨y 0, y 1, y 2, by ext a; match a with | ⟨0, _⟩ => rfl | ⟨1, _⟩ => rfl | ⟨2, _⟩ => rfl⟩
  rw [Cert.ReferenceIdeal.Hand.part_apply _ _ _ p l e n hn hI, Cert.ReferenceIdeal.Hand.proj_apply]
  show ((∑ d : Fin 768, (Xv (ix3 p ⟨l.val + n, _⟩ d) : EReal) * W (ix2 e d)) + b' (ix2 0 e)) * w (ix3 p 0 ⟨q.val, _⟩) = _
  rw [hb, hw]
  simp only [hX]

section
variable (m : (ℓ : Loc nD τ sig) → Buf (Elt Ideal) ℓ) (ρ : Dev nD → PrngReg) (c : Dev nD)
    (X T : S2x4096x768.Idx → ℝ) (Wq Wk : S768x768.Idx → ℝ) (bq bk : S768.Idx → ℝ)
    (h0 : Reals (s := S2x4096x768) (m ((c.tc : Thread nD τ).loc main_arg0)) X) (h1 : Reals (s := S2x4096x768) (m ((c.tc : Thread nD τ).loc main_arg1)) T)
    (h2 : Reals (s := S768x768) (m ((c.tc : Thread nD τ).loc main_arg2)) Wq) (h3 : Reals (s := S768) (m ((c.tc : Thread nD τ).loc main_arg3)) bq)
    (h4 : Reals (s := S768x768) (m ((c.tc : Thread nD τ).loc main_arg4)) Wk) (h5 : Reals (s := S768) (m ((c.tc : Thread nD τ).loc main_arg5)) bk)
    (o : Vec Ideal S1x8 .i32) (hV : ∀ c t, InRange (iblk3 (V6 m ρ o) c 1 t)) (ho : Good m ρ c o)

theorem rows_apply (p : Fin 2) (k : Fin 8192) (d : Fin 768) :
    (show EReal from V6 m ρ o c main_v5 (ix3 p k d)) = m ((c.tc : Thread nD τ).loc main_arg1) (ix3 p ⟨k.val % 4096, Nat.mod_lt _ (by decide)⟩ d) := by
  have e : V6 m ρ o c main_v5 = W3 m ρ c (Proc.devRef .tc main_v5) :=
    (W6_of m ρ o c main_v5 (by decide)).trans ((W5_of m ρ o c main_v5 (by decide)).trans (W4_of m ρ c main_v5 (by decide)))
  refine (congrFun (e.trans (W3_v5 m ρ c)) (ix3 p k d)).trans ((twice_apply _ p k d).trans ?_)
  refine (congrFun ((W2_arr m ρ c 10).trans (arr0_td (V1 m ρ) c)) _).trans ?_
  exact congrFun (W1_args m ρ c main_arg1 (by decide)) _

theorem weights_eq : V6 m ρ o c main_v7_1 = weights (V4 m ρ c main_v6) :=
  (W6_of m ρ o c main_v7_1 (by decide)).trans ((W5_arr m ρ o c 2).trans (arr2_2 (V4 m ρ) c o))

theorem last_bias (e : Fin 768) : (show EReal from V6 m ρ o c main_v8 (ix2 0 e)) = m ((c.tc : Thread nD τ).loc main_arg7) (ix1 e) :=
  (congrFun (W6_v8 m ρ c o) (ix2 0 e)).trans (bias_apply _ e)

/-- The reference's mean correlations of the arguments. -/
abbrev refMean : FVec Ideal Cert.ReferenceIdeal.S2x4096 .f32 :=
  Cert.ReferenceIdeal.Hand.meanCorr (Cert.ReferenceIdeal.Hand.proj (m ((c.tc : Thread nD τ).loc main_arg0)) (m ((c.tc : Thread nD τ).loc main_arg2)) (m ((c.tc : Thread nD τ).loc main_arg3)))
    (Cert.ReferenceIdeal.Hand.proj (m ((c.tc : Thread nD τ).loc main_arg1)) (m ((c.tc : Thread nD τ).loc main_arg4)) (m ((c.tc : Thread nD τ).loc main_arg5)))

/-- The reference's values of the arguments. -/
abbrev refValues : FVec Ideal Cert.ReferenceIdeal.S2x4096x768 .f32 :=
  Cert.ReferenceIdeal.Hand.proj (m ((c.tc : Thread nD τ).loc main_arg1)) (m ((c.tc : Thread nD τ).loc main_arg6)) (m ((c.tc : Thread nD τ).loc main_arg7))

theorem word_nat (q : Fin 4096) : (BitVec.ofNat 32 q.val).toNat = q.val := by
  rw [BitVec.toNat_ofNat, Nat.mod_eq_of_lt (by omega)]

theorem first_word (I : IVec Cert.ReferenceIdeal.S5 32) : extractStridedSlice Cert.ReferenceIdeal.S1 ![0] I Cert.ReferenceIdeal.Gen.slices_S5_S1_0 (ix1 0) = I (ix1 0) := by
  pointwise

theorem last_word (I : IVec Cert.ReferenceIdeal.S5 32) : extractStridedSlice Cert.ReferenceIdeal.S1 ![4] I Cert.ReferenceIdeal.Gen.slices_S5_S1_4 (ix1 0) = I (ix1 4) := by
  pointwise

theorem first_weight (w : FVec Ideal Cert.ReferenceIdeal.S2x5 .f32) (p : Fin 2) :
    extractStridedSlice Cert.ReferenceIdeal.S2x1 ![0, 0] w Cert.ReferenceIdeal.Gen.slices_S2x5_S2x1_0_0 (ix2 p 0) = w (ix2 p 0) := by
  pointwise

theorem last_weight (w : FVec Ideal Cert.ReferenceIdeal.S2x5 .f32) (p : Fin 2) :
    extractStridedSlice Cert.ReferenceIdeal.S2x1 ![0, 4] w Cert.ReferenceIdeal.Gen.slices_S2x5_S2x1_0_4 (ix2 p 0) = w (ix2 p 4) := by
  pointwise

include h0 h1 h2 h3 h4 h5 ho in
/-- Both results, when the words read by the last call are the ones the third call may leave. -/
theorem results :
    (W7 m ρ o hV c (Proc.devRef .tc main_v9_0) = Cert.ReferenceIdeal.Hand.first (refValues m c) (refMean m c))
      ∧ W7 m ρ o hV c (Proc.devRef .tc main_v9_1) = Cert.ReferenceIdeal.Hand.last (refValues m c) (refMean m c) := by
  obtain ⟨σ, hd, hf, hl, hw⟩ := Choice.choice (V4 m ρ c main_v6) (refMean m c) (fun p l => Correlation.corr (line X Wq bq p) (line T Wk bk p) l.val)
    (fun p l => corr_real m ρ c X T Wq Wk bq bk h0 h1 h2 h3 h4 h5 p l)
    (fun p l => meanCorr_real _ _ _ _ _ _ X T Wq Wk bq bk h0 h1 h2 h3 h4 h5 p l)
  have o0 : o (ix2 0 0) = BitVec.ofNat 32 (σ 0).val := (word2_first (V4 m ρ) c _ o ho).trans hf
  have o4 : o (ix2 0 4) = BitVec.ofNat 32 (σ 4).val := (word2_last (V4 m ρ) c _ o ho).trans hl
  have e6 : V6 m ρ o c main_arg6 = m ((c.tc : Thread nD τ).loc main_arg6) := W6_args m ρ o c main_arg6 (by decide)
  constructor
  · refine (W7_arr m ρ o hV c 5).trans ((arr3_first (V6 m ρ o) hV c (σ 0).val (σ 0).isLt (fun t => ?_)).trans ?_)
    · rw [idx_block, o0, word_nat]
    · rw [e6, weights_eq]
      unfold Cert.ReferenceIdeal.Hand.first
      refine rolled_eq _ _ 0 _ _ _ _ _ _ _ _ (rows_apply m ρ c o) (last_bias m ρ c o) ?_ (fun p => ?_)
      · rw [first_word, hd, word_nat]
      · rw [first_weight]
        exact hw p 0
  · refine (W7_arr m ρ o hV c 6).trans ((arr3_last (V6 m ρ o) hV c (σ 4).val (σ 4).isLt (fun t => ?_)).trans ?_)
    · rw [idx_block, o4, word_nat]
    · rw [e6, weights_eq]
      unfold Cert.ReferenceIdeal.Hand.last
      refine rolled_eq _ _ 4 _ _ _ _ _ _ _ _ (rows_apply m ρ c o) (last_bias m ρ c o) ?_ (fun p => ?_)
      · rw [last_word, hd, word_nat]
      · rw [last_weight]
        exact hw p 4
end

end Cert.Results

end
-- ==== Proof.Equal.lean ====
/- The claims under the precondition `finite`: both programs end with their arguments as launched, and the two results of the
   kernel are the two of the reference. -/
module
public import proofs.«01_k».proof.Proof.Claims
public import proofs.«01_k».proof.Proof.Value.Finite
public import proofs.«01_k».proof.Proof.Value.Results
@[expose] public section
noncomputable section
namespace Cert.Proof

open Idealize.ShloMosaic Idealize.ShloMosaic.TcCoe Idealize.SL.Sem

theorem frame_pi_finite : Cert.quiescent_KernelIdeal_pre_finite (hPre_finite := Cert.Finite.facts) :=
  fun m ρ _ => Cert.KernelIdeal.Hand.frame (F := Ideal) m ρ

theorem frame_ri_finite : Cert.quiescent_ReferenceIdeal_pre_finite (hPre_finite := Cert.Finite.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- From memories that agree on the arguments, and real in the first six, both programs end with the same two results. -/
theorem algebraic : Cert.algebraic_KernelIdeal_ReferenceIdeal_pre_finite (hPre_finite := Cert.Finite.facts) := by
  intro m g m' g' hP hm
  refine ⟨fun c => Cert.ReferenceIdeal.Hand.first (Results.refValues m c) (Results.refMean m c),
    fun c => Cert.ReferenceIdeal.Hand.last (Results.refValues m c) (Results.refMean m c), ?_, ?_⟩
  · refine (θ_run Cert.KernelIdeal.defs _ _).mono (fun r hr c => ?_) (Cert.KernelIdeal.Hand.run_main (F := Ideal) m g)
    obtain ⟨o, hV, ho, h⟩ := hr.1 c
    letI := Cert.Finite.facts
    obtain ⟨f0, f1, f2, f3, f4, f5⟩ := Cert.Finite.finite_all _ _ _ _ _ _ _ _ (hP c)
    choose X h0 using f0
    choose T h1 using f1
    choose Wq h2 using f2
    choose bq h3 using f3
    choose Wk h4 using f4
    choose bk h5 using f5
    obtain ⟨e0, e1⟩ := Results.results m g c X T Wq Wk bq bk h0 h1 h2 h3 h4 h5 o hV ho
    exact ⟨(h _ (Cert.KernelIdeal.Hand.mem_uc Cert.KernelIdeal.main_v9_0 (by decide))).trans e0,
      (h _ (Cert.KernelIdeal.Hand.mem_uc Cert.KernelIdeal.main_v9_1 (by decide))).trans e1,
      (h _ (Cert.KernelIdeal.Hand.mem_uc Cert.KernelIdeal.main_arg0 (by decide))).trans (Cert.KernelIdeal.Hand.W7_args m g o hV c Cert.KernelIdeal.main_arg0 (by decide)),
      (h _ (Cert.KernelIdeal.Hand.mem_uc Cert.KernelIdeal.main_arg1 (by decide))).trans (Cert.KernelIdeal.Hand.W7_args m g o hV c Cert.KernelIdeal.main_arg1 (by decide)),
      (h _ (Cert.KernelIdeal.Hand.mem_uc Cert.KernelIdeal.main_arg2 (by decide))).trans (Cert.KernelIdeal.Hand.W7_args m g o hV c Cert.KernelIdeal.main_arg2 (by decide)),
      (h _ (Cert.KernelIdeal.Hand.mem_uc Cert.KernelIdeal.main_arg3 (by decide))).trans (Cert.KernelIdeal.Hand.W7_args m g o hV c Cert.KernelIdeal.main_arg3 (by decide)),
      (h _ (Cert.KernelIdeal.Hand.mem_uc Cert.KernelIdeal.main_arg4 (by decide))).trans (Cert.KernelIdeal.Hand.W7_args m g o hV c Cert.KernelIdeal.main_arg4 (by decide)),
      (h _ (Cert.KernelIdeal.Hand.mem_uc Cert.KernelIdeal.main_arg5 (by decide))).trans (Cert.KernelIdeal.Hand.W7_args m g o hV c Cert.KernelIdeal.main_arg5 (by decide)),
      (h _ (Cert.KernelIdeal.Hand.mem_uc Cert.KernelIdeal.main_arg6 (by decide))).trans (Cert.KernelIdeal.Hand.W7_args m g o hV c Cert.KernelIdeal.main_arg6 (by decide)),
      (h _ (Cert.KernelIdeal.Hand.mem_uc Cert.KernelIdeal.main_arg7 (by decide))).trans (Cert.KernelIdeal.Hand.W7_args m g o hV c Cert.KernelIdeal.main_arg7 (by decide))⟩
  · refine (θ_run Cert.ReferenceIdeal.defs _ _).mono (fun r hr c => ?_) (Cert.ReferenceIdeal.Value.run (F := Ideal) m' g')
    obtain ⟨a0, a1, a2, a3, a4, a5, a6, a7⟩ := hm c
    obtain ⟨e0, e1, e⟩ := hr c
    refine ⟨e0.trans ((Cert.ReferenceIdeal.Hand.res0 m' c).trans ?_), e1.trans ((Cert.ReferenceIdeal.Hand.res1 m' c).trans ?_), e⟩
    · rw [a0, a1, a2, a3, a4, a5, a6, a7]
    · rw [a0, a1, a2, a3, a4, a5, a6, a7]

end Cert.Proof

end
-- ==== Proof.lean ====
/- The proof of the certificate's claim, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Finite.facts, frame_p, frame_pi, frame_pi_finite,
    frame_ri, frame_ri_finite, preserves, algebraic⟩

end Cert.Proof

end
